-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S4x1024x3 : Shape := ⟨3, ![4, 1024, 3]⟩
abbrev S4x1024x1024 : Shape := ⟨3, ![4, 1024, 1024]⟩
abbrev S4x2048x1024x8 : Shape := ⟨4, ![4, 2048, 1024, 8]⟩
abbrev S4x1024x8 : Shape := ⟨3, ![4, 1024, 8]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩

class Facts : Prop where
  bcast_S_S4x1024x1024 : S_.BroadcastsInDim S4x1024x1024 (![] : Fin 0 → Fin S4x1024x1024.rank)
  bcast_S_S4x1024x8 : S_.BroadcastsInDim S4x1024x8 (![] : Fin 0 → Fin S4x1024x8.rank)
  bcast_S_S2048x1024 : S_.BroadcastsInDim S2048x1024 (![] : Fin 0 → Fin S2048x1024.rank)
  bcast_S_S2048 : S_.BroadcastsInDim S2048 (![] : Fin 0 → Fin S2048.rank)
  bcast_S_S2048x2048 : S_.BroadcastsInDim S2048x2048 (![] : Fin 0 → Fin S2048x2048.rank)

variable [Facts]

def fn_part1 {F : FTy → Type} [FloatOps F] (main_arg8 : FVec F S2048 .f32) (main_v2 : IVec S4x1024x1024 1) (main_v7 : IVec S4x1024x8 1) (main_v10 : IVec S2048x1024 1) (main_v13 : IVec S2048 1) (main_v16 : IVec S2048 1) (main_v17 : FVec F S2048x2048 .f32) : IVec S4x1024x1024 1 × IVec S4x1024x8 1 × IVec S2048x1024 1 × IVec S2048 1 × IVec S2048 1 × IVec S2048x2048 1 × IVec S2048 1 :=
  let main_cst_4 : FVec F S_ .f32 := constant S_ .f32 0x7F800000#32
  let main_v18 : FVec F S2048x2048 .f32 := broadcastInDim S2048x2048 ![] bcast_S_S2048x2048 main_cst_4
  let main_v19 : IVec S2048x2048 1 := cmpf .olt main_v17 main_v18
  let main_v20 : FVec F S2048 .f32 := Host.absf main_arg8
  let main_cst_5 : FVec F S_ .f32 := constant S_ .f32 0x7F800000#32
  let main_v21 : FVec F S2048 .f32 := broadcastInDim S2048 ![] bcast_S_S2048 main_cst_5
  let main_v22 : IVec S2048 1 := cmpf .olt main_v20 main_v21
  (main_v2, main_v7, main_v10, main_v13, main_v16, main_v19, main_v22)

def fn {F : FTy → Type} [FloatOps F] (main_arg0 : FVec F S4x1024x3 .f32) (main_arg1 : FVec F S4x1024x1024 .f32) (main_arg2 : FVec F S4x2048x1024x8 .f32) (main_arg3 : IVec S4x1024x8 32) (main_arg4 : FVec F S2048x1024 .f32) (main_arg5 : FVec F S2048 .f32) (main_arg6 : FVec F S2048 .f32) (main_arg7 : FVec F S2048x2048 .f32) (main_arg8 : FVec F S2048 .f32) (main_arg9 : FVec F S2048 .f32) : IVec S4x1024x1024 1 × IVec S4x1024x8 1 × IVec S2048x1024 1 × IVec S2048 1 × IVec S2048 1 × IVec S2048x2048 1 × IVec S2048 1 :=
  let main_v0 : FVec F S4x1024x1024 .f32 := Host.absf main_arg1
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 32 := constantI S_ 32 0#32
  let main_v3 : IVec S4x1024x8 32 := broadcastInDim S4x1024x8 ![] bcast_S_S4x1024x8 main_c
  let main_v4 : IVec S4x1024x8 1 := cmpi .sge main_arg3 main_v3
  let main_c_0 : IVec S_ 32 := constantI S_ 32 1024#32
  let main_v5 : IVec S4x1024x8 32 := broadcastInDim S4x1024x8 ![] bcast_S_S4x1024x8 main_c_0
  let main_v6 : IVec S4x1024x8 1 := cmpi .slt main_arg3 main_v5
  let main_v7 : IVec S4x1024x8 1 := andi main_v4 main_v6
  let main_v8 : FVec F S2048x1024 .f32 := Host.absf main_arg4
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S2048 .f32 := Host.absf main_arg5
  let main_cst_2 : FVec F S_ .f32 := constant S_ .f32 0x7F800000#32
  let main_v12 : FVec F S2048 .f32 := broadcastInDim S2048 ![] bcast_S_S2048 main_cst_2
  let main_v13 : IVec S2048 1 := cmpf .olt main_v11 main_v12
  let main_v14 : FVec F S2048 .f32 := Host.absf main_arg6
  let main_cst_3 : FVec F S_ .f32 := constant S_ .f32 0x7F800000#32
  let main_v15 : FVec F S2048 .f32 := broadcastInDim S2048 ![] bcast_S_S2048 main_cst_3
  let main_v16 : IVec S2048 1 := cmpf .olt main_v14 main_v15
  let main_v17 : FVec F S2048x2048 .f32 := Host.absf main_arg7
  fn_part1 (F := F) main_arg8 main_v2 main_v7 main_v10 main_v13 main_v16 main_v17
-- ==== Kernel.lean ====
abbrev S4x1024x3 : Shape := ⟨3, ![4, 1024, 3]⟩
abbrev S4x1024x1024 : Shape := ⟨3, ![4, 1024, 1024]⟩
abbrev S4x2048x1024x8 : Shape := ⟨4, ![4, 2048, 1024, 8]⟩
abbrev S4x1024x8 : Shape := ⟨3, ![4, 1024, 8]⟩
abbrev S2048x1024 : Shape := ⟨2, ![2048, 1024]⟩
abbrev S2048 : Shape := ⟨1, ![2048]⟩
abbrev S2048x2048 : Shape := ⟨2, ![2048, 2048]⟩
abbrev S4x1024x2048 : Shape := ⟨3, ![4, 1024, 2048]⟩
abbrev S2x2048 : Shape := ⟨2, ![2, 2048]⟩
abbrev S1x1024x256 : Shape := ⟨3, ![1, 1024, 256]⟩
abbrev S1x256x2048 : Shape := ⟨3, ![1, 256, 2048]⟩
abbrev S1024x256 : Shape := ⟨2, ![1024, 256]⟩
abbrev S256x2048 : Shape := ⟨2, ![256, 2048]⟩
abbrev S1x2048 : Shape := ⟨2, ![1, 2048]⟩
abbrev S_ : Shape := ⟨0, ![]⟩
abbrev S4x2048x1024 : Shape := ⟨3, ![4, 2048, 1024]⟩
abbrev S1x2048x256 : Shape := ⟨3, ![1, 2048, 256]⟩
abbrev S2048x256 : Shape := ⟨2, ![2048, 256]⟩
abbrev S2048x1 : Shape := ⟨2, ![2048, 1]⟩
abbrev S1x2048x1024 : Shape := ⟨3, ![1, 2048, 1024]⟩
abbrev S4x2048x8x1024 : Shape := ⟨4, ![4, 2048, 8, 1024]⟩
abbrev S4x8x1024 : Shape := ⟨3, ![4, 8, 1024]⟩
abbrev S1x8x128 : Shape := ⟨3, ![1, 8, 128]⟩
abbrev S1x2048x8x128 : Shape := ⟨4, ![1, 2048, 8, 128]⟩
abbrev S1x2048x128 : Shape := ⟨3, ![1, 2048, 128]⟩
abbrev S8x128 : Shape := ⟨2, ![8, 128]⟩
abbrev S1x1024 : Shape := ⟨2, ![1, 1024]⟩
abbrev S1024x1024 : Shape := ⟨2, ![1024, 1024]⟩
abbrev S2048x8x128 : Shape := ⟨3, ![2048, 8, 128]⟩
abbrev S2048x128 : Shape := ⟨2, ![2048, 128]⟩

abbrev nBuf : Space → Nat
  | .hbm => 60
  | .vmem => 28
  | .smem => 0
  | _ => 0

abbrev bufTy : (tb : Table) → Fin (tcTables nBuf tb) → BufTy
  | .hbm, ⟨0, _⟩ => ⟨S4x1024x3, .f32⟩
  | .hbm, ⟨1, _⟩ => ⟨S4x1024x1024, .f32⟩
  | .hbm, ⟨2, _⟩ => ⟨S4x2048x1024x8, .f32⟩
  | .hbm, ⟨3, _⟩ => ⟨S4x1024x8, .i32⟩
  | .hbm, ⟨4, _⟩ => ⟨S2048x1024, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S4x1024x2048, .bf16⟩
  | .hbm, ⟨11, _⟩ => ⟨S2x2048, .f32⟩
  | .hbm, ⟨12, _⟩ => ⟨S1x2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S1x2048, .f32⟩
  | .hbm, ⟨32, _⟩ => ⟨S1x2048, .f32⟩
  | .hbm, ⟨33, _⟩ => ⟨S4x2048x1024, .bf16⟩
  | .hbm, ⟨34, _⟩ => ⟨S2x2048, .f32⟩
  | .hbm, ⟨35, _⟩ => ⟨S1x2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S1x2048, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048x1, .f32⟩
  | .hbm, ⟨55, _⟩ => ⟨S2048x1, .f32⟩
  | .hbm, ⟨56, _⟩ => ⟨S4x2048x1024, .bf16⟩
  | .hbm, ⟨57, _⟩ => ⟨S4x2048x8x1024, .f32⟩
  | .hbm, ⟨58, _⟩ => ⟨S4x8x1024, .i32⟩
  | .hbm, ⟨59, _⟩ => ⟨S4x2048x1024, .f32⟩
  | .local _ .vmem, ⟨0, _⟩ => ⟨S1x1024x256, .f32⟩
  | .local _ .vmem, ⟨1, _⟩ => ⟨S1x1024x256, .f32⟩
  | .local _ .vmem, ⟨2, _⟩ => ⟨S2048x1024, .f32⟩
  | .local _ .vmem, ⟨3, _⟩ => ⟨S1x256x2048, .bf16⟩
  | .local _ .vmem, ⟨4, _⟩ => ⟨S1x256x2048, .bf16⟩
  | .local _ .vmem, ⟨5, _⟩ => ⟨S2x2048, .f32⟩
  | .local _ .vmem, ⟨6, _⟩ => ⟨S1x256x2048, .bf16⟩
  | .local _ .vmem, ⟨7, _⟩ => ⟨S1x256x2048, .bf16⟩
  | .local _ .vmem, ⟨8, _⟩ => ⟨S1x2048, .f32⟩
  | .local _ .vmem, ⟨9, _⟩ => ⟨S1x2048, .f32⟩
  | .local _ .vmem, ⟨10, _⟩ => ⟨S2048x2048, .f32⟩
  | .local _ .vmem, ⟨11, _⟩ => ⟨S1x2048x256, .bf16⟩
  | .local _ .vmem, ⟨12, _⟩ => ⟨S1x2048x256, .bf16⟩
  | .local _ .vmem, ⟨13, _⟩ => ⟨S2x2048, .f32⟩
  | .local _ .vmem, ⟨14, _⟩ => ⟨S1x2048x1024, .bf16⟩
  | .local _ .vmem, ⟨15, _⟩ => ⟨S1x2048x1024, .bf16⟩
  | .local _ .vmem, ⟨16, _⟩ => ⟨S2048x1, .f32⟩
  | .local _ .vmem, ⟨17, _⟩ => ⟨S2048x1, .f32⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x8x128, .i32⟩
  | .local _ .vmem, ⟨23, _⟩ => ⟨S1x8x128, .i32⟩
  | .local _ .vmem, ⟨24, _⟩ => ⟨S1x2048x8x128, .f32⟩
  | .local _ .vmem, ⟨25, _⟩ => ⟨S1x2048x8x128, .f32⟩
  | .local _ .vmem, ⟨26, _⟩ => ⟨S1x2048x128, .f32⟩
  | .local _ .vmem, ⟨27, _⟩ => ⟨S1x2048x128, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S2x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x8x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x2048x8x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== ReferenceIdeal.lean ====
abbrev S4x1024x3 : Shape := ⟨3, ![4, 1024, 3]⟩
abbrev S4x1024x1024 : Shape := ⟨3, ![4, 1024, 1024]⟩
abbrev S4x2048x1024x8 : Shape := ⟨4, ![4, 2048, 1024, 8]⟩
abbrev S4x1024x8 : Shape := ⟨3, ![4, 1024, 8]⟩
abbrev S2048x1024 : Shape := ⟨2, ![2048, 1024]⟩
abbrev S2048 : Shape := ⟨1, ![2048]⟩
abbrev S2048x2048 : Shape := ⟨2, ![2048, 2048]⟩
abbrev S4x1024x2048 : Shape := ⟨3, ![4, 1024, 2048]⟩
abbrev S4x2048x1024 : Shape := ⟨3, ![4, 2048, 1024]⟩
abbrev S_ : Shape := ⟨0, ![]⟩
abbrev S1x2048x1 : Shape := ⟨3, ![1, 2048, 1]⟩
abbrev S4x1024x8x1 : Shape := ⟨4, ![4, 1024, 8, 1]⟩
abbrev S4x1024x8x2048 : Shape := ⟨4, ![4, 1024, 8, 2048]⟩

abbrev nBuf : Space → Nat
  | .hbm => 122
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x1024x1024, .f32⟩
  | .hbm, ⟨2, _⟩ => ⟨S4x2048x1024x8, .f32⟩
  | .hbm, ⟨3, _⟩ => ⟨S4x1024x8, .i32⟩
  | .hbm, ⟨4, _⟩ => ⟨S2048x1024, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S4x1024x2048, .f32⟩
  | .hbm, ⟨11, _⟩ => ⟨S4x2048x1024, .f32⟩
  | .hbm, ⟨12, _⟩ => ⟨S_, .f32⟩
  | .hbm, ⟨13, _⟩ => ⟨S2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S_, .i32⟩
  | .hbm, ⟨19, _⟩ => ⟨S_, .f32⟩
  | .hbm, ⟨20, _⟩ => ⟨S2048, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S1x2048x1, .f32⟩
  | .hbm, ⟨34, _⟩ => ⟨S1x2048x1, .f32⟩
  | .hbm, ⟨35, _⟩ => ⟨S1x2048x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S1x2048x1, .f32⟩
  | .hbm, ⟨46, _⟩ => ⟨S1x2048x1, .f32⟩
  | .hbm, ⟨47, _⟩ => ⟨S1x2048x1, .f32⟩
  | .hbm, ⟨48, _⟩ => ⟨S4x2048x1024, .f32⟩
  | .hbm, ⟨49, _⟩ => ⟨S4x2048x1024, .f32⟩
  | .hbm, ⟨50, _⟩ => ⟨S1x2048x1, .f32⟩
  | .hbm, ⟨51, _⟩ => ⟨S4x2048x1024, .f32⟩
  | .hbm, ⟨52, _⟩ => ⟨S4x2048x1024, .f32⟩
  | .hbm, ⟨53, _⟩ => ⟨S1x2048x1, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048x1024, .f32⟩
  | .hbm, ⟨58, _⟩ => ⟨S4x2048x1024, .f32⟩
  | .hbm, ⟨59, _⟩ => ⟨S4x1024x2048, .f32⟩
  | .hbm, ⟨60, _⟩ => ⟨S4x2048x1024, .f32⟩
  | .hbm, ⟨61, _⟩ => ⟨S_, .f32⟩
  | .hbm, ⟨62, _⟩ => ⟨S2048, .f32⟩
  | .hbm, ⟨63, _⟩ => ⟨S1x2048x1, .f32⟩
  | .hbm, ⟨64, _⟩ => ⟨S_, .f32⟩
  | .hbm, ⟨65, _⟩ => ⟨S1x2048x1, .f32⟩
  | .hbm, ⟨66, _⟩ => ⟨S1x2048x1, .f32⟩
  | .hbm, ⟨67, _⟩ => ⟨S_, .i32⟩
  | .hbm, ⟨68, _⟩ => ⟨S_, .f32⟩
  | .hbm, ⟨69, _⟩ => ⟨S2048, .f32⟩
  | .hbm, ⟨70, _⟩ => ⟨S1x2048x1, .f32⟩
  | .hbm, ⟨71, _⟩ => ⟨S_, .f32⟩
  | .hbm, ⟨72, _⟩ => ⟨S1x2048x1, .f32⟩
  | .hbm, ⟨73, _⟩ => ⟨S1x2048x1, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2048, .f32⟩
  | .hbm, ⟨82, _⟩ => ⟨S1x2048x1, .f32⟩
  | .hbm, ⟨83, _⟩ => ⟨S1x2048x1, .f32⟩
  | .hbm, ⟨84, _⟩ => ⟨S1x2048x1, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S1x2048x1, .f32⟩
  | .hbm, ⟨90, _⟩ => ⟨S1x2048x1, .f32⟩
  | .hbm, ⟨91, _⟩ => ⟨S4x2048x1024, .f32⟩
  | .hbm, ⟨92, _⟩ => ⟨S4x2048x1024, .f32⟩
  | .hbm, ⟨93, _⟩ => ⟨S_, .f32⟩
  | .hbm, ⟨94, _⟩ => ⟨S1x2048x1, .f32⟩
  | .hbm, ⟨95, _⟩ => ⟨S1x2048x1, .f32⟩
  | .hbm, ⟨96, _⟩ => ⟨S1x2048x1, .f32⟩
  | .hbm, ⟨97, _⟩ => ⟨S4x2048x1024, .f32⟩
  | .hbm, ⟨98, _⟩ => ⟨S4x2048x1024, .f32⟩
  | .hbm, ⟨99, _⟩ => ⟨S1x2048x1, .f32⟩
  | .hbm, ⟨100, _⟩ => ⟨S4x2048x1024, .f32⟩
  | .hbm, ⟨101, _⟩ => ⟨S4x2048x1024, .f32⟩
  | .hbm, ⟨102, _⟩ => ⟨S1x2048x1, .f32⟩
  | .hbm, ⟨103, _⟩ => ⟨S4x2048x1024, .f32⟩
  | .hbm, ⟨104, _⟩ => ⟨S4x2048x1024, .f32⟩
  | .hbm, ⟨105, _⟩ => ⟨S_, .f32⟩
  | .hbm, ⟨106, _⟩ => ⟨S4x2048x1024, .f32⟩
  | .hbm, ⟨107, _⟩ => ⟨S4x2048x1024, .f32⟩
  | .hbm, ⟨108, _⟩ => ⟨S4x1024x2048, .f32⟩
  | .hbm, ⟨109, _⟩ => ⟨S_, .i32⟩
  | .hbm, ⟨110, _⟩ => ⟨S4x1024x8, .i32⟩
  | .hbm, ⟨111, _⟩ => ⟨S4x1024x8, .i1⟩
  | .hbm, ⟨112, _⟩ => ⟨S_, .i32⟩
  | .hbm, ⟨113, _⟩ => ⟨S4x1024x8, .i32⟩
  | .hbm, ⟨114, _⟩ => ⟨S4x1024x8, .i32⟩
  | .hbm, ⟨115, _⟩ => ⟨S4x1024x8, .i32⟩
  | .hbm, ⟨116, _⟩ => ⟨S4x1024x8x1, .i32⟩
  | .hbm, ⟨117, _⟩ => ⟨S4x1024x8x2048, .f32⟩
  | .hbm, ⟨118, _⟩ => ⟨S4x2048x1024x8, .f32⟩
  | .hbm, ⟨119, _⟩ => ⟨S4x2048x1024x8, .f32⟩
  | .hbm, ⟨120, _⟩ => ⟨S_, .f32⟩
  | .hbm, ⟨121, _⟩ => ⟨S4x2048x1024, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_call1_cst : Ref sig .tc := ⟨.hbm, 56, rfl⟩
abbrev main_call1_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_2 : Ref sig .tc := ⟨.hbm, 61, rfl⟩
abbrev main_v23 : Ref sig .tc := ⟨.hbm, 62, rfl⟩
abbrev main_v24 : Ref sig .tc := ⟨.hbm, 63, rfl⟩
abbrev main_cst_3 : Ref sig .tc := ⟨.hbm, 64, rfl⟩
abbrev main_v25 : Ref sig .tc := ⟨.hbm, 65, rfl⟩
abbrev main_v26 : Ref sig .tc := ⟨.hbm, 66, rfl⟩
abbrev main_c_4 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_cst_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_cst_1 : Ref sig .tc := ⟨.hbm, 78, rfl⟩
abbrev main_call2_v8 : Ref sig .tc := ⟨.hbm, 79, rfl⟩
abbrev main_call2_cst_2 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_cst_3 : Ref sig .tc := ⟨.hbm, 85, rfl⟩
abbrev main_call2_v13 : Ref sig .tc := ⟨.hbm, 86, rfl⟩
abbrev main_call2_cst_4 : Ref sig .tc := ⟨.hbm, 87, rfl⟩
abbrev main_call2_call0_v0 : Ref sig .tc := ⟨.hbm, 88, rfl⟩
abbrev main_call2_call0_v1 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_cst_5 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_call3_cst : Ref sig .tc := ⟨.hbm, 105, rfl⟩
abbrev main_call3_v0 : Ref sig .tc := ⟨.hbm, 106, rfl⟩
abbrev main_v41 : Ref sig .tc := ⟨.hbm, 107, rfl⟩
abbrev main_v42 : Ref sig .tc := ⟨.hbm, 108, rfl⟩
abbrev main_c_6 : Ref sig .tc := ⟨.hbm, 109, rfl⟩
abbrev main_v43 : Ref sig .tc := ⟨.hbm, 110, rfl⟩
abbrev main_v44 : Ref sig .tc := ⟨.hbm, 111, rfl⟩
abbrev main_c_7 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_cst_8 : Ref sig .tc := ⟨.hbm, 120, rfl⟩
abbrev main_v52 : Ref sig .tc := ⟨.hbm, 121, rfl⟩

abbrev nD : Nat := 1
abbrev τ : Topo := Topo.v7x

variable {F : FTy → Type} [FloatOps F]
-- ==== Proof.Pay.lean ====
module

public import proofs.«01_k».proof.Proof.Gen.KernelIdeal
public import proofs.«01_k».proof.Proof.Gen.KernelIdeal.Skeleton
public import Idealize.ShloMosaic.Lib.Pointwise

@[expose] public section

noncomputable section

/-! ## What each kernel body computes from its blocks, read at an index over the extended reals -/

namespace Cert.KernelIdeal.Val

open Cert.KernelIdeal Cert.KernelIdeal.Gen Idealize.ShloMosaic Idealize.ShloMosaic.Pointwise
open scoped BigOperators

/-- The first product: row `r` of the block against row `o` of the weights. -/
theorem k0_pay1_at (x : Vec Ideal S1x1024x256 .f32) (w : Vec Ideal S2048x1024 .f32) (r : Fin 256) (o : Fin 2048) :
    k0_pay1 x w (ix2 r o) = ∑ k : Fin 1024, x (ix3 0 k r) * w (ix2 o k) := by
  pointwise [k0_pay1]

/-- The block the first body stores is the product itself. -/
theorem k0_pay2_at (x : Vec Ideal S1x1024x256 .f32) (w : Vec Ideal S2048x1024 .f32) (r : Fin 256) (o : Fin 2048) :
    k0_pay2 x w (ix3 0 r o) = k0_pay1 x w (ix2 r o) := by
  pointwise [k0_pay2]

/-- The zero block. -/
theorem k0_pay3_at (a : Fin 2) (o : Fin 2048) : (k0_pay3 (F := Ideal)) (ix2 a o) = 0 := by
  pointwise [k0_pay3]

/-- Row 0 of the statistics gains the column sums of the product. -/
theorem k0_pay4_sum (x : Vec Ideal S1x1024x256 .f32) (w : Vec Ideal S2048x1024 .f32) (s : Vec Ideal S2x2048 .f32) (o : Fin 2048) :
    k0_pay4 x w s (ix2 0 o) = s (ix2 0 o) + ∑ r : Fin 256, k0_pay1 x w (ix2 r o) := by
  pointwise [k0_pay4]

/-- Row 1 of the statistics gains the column sums of the squares. -/
theorem k0_pay4_sq (x : Vec Ideal S1x1024x256 .f32) (w : Vec Ideal S2048x1024 .f32) (s : Vec Ideal S2x2048 .f32) (o : Fin 2048) :
    k0_pay4 x w s (ix2 1 o) = s (ix2 1 o) + ∑ r : Fin 256, k0_pay1 x w (ix2 r o) * k0_pay1 x w (ix2 r o) := by
  pointwise [k0_pay4]

/-- The second product, over the scaled, shifted and clamped block. -/
theorem k1_pay1_at (y : Vec Ideal S1x256x2048 .bf16) (s b : Vec Ideal S1x2048 .f32) (w : Vec Ideal S2048x2048 .f32) (o : Fin 2048) (r : Fin 256) :
    k1_pay1 y s b w (ix2 o r) = ∑ k : Fin 2048, w (ix2 o k) * max (y (ix3 0 r k) * s (ix2 0 k) + b (ix2 0 k)) 0 := by
  pointwise [k1_pay1]

/-- The block the second body stores is the product itself. -/
theorem k1_pay2_at (y : Vec Ideal S1x256x2048 .bf16) (s b : Vec Ideal S1x2048 .f32) (w : Vec Ideal S2048x2048 .f32) (o : Fin 2048) (r : Fin 256) :
    k1_pay2 y s b w (ix3 0 o r) = k1_pay1 y s b w (ix2 o r) := by
  pointwise [k1_pay2]

/-- The zero block. -/
theorem k1_pay3_at (a : Fin 2) (o : Fin 2048) : (k1_pay3 (F := Ideal)) (ix2 a o) = 0 := by
  pointwise [k1_pay3]

/-- Row 0 of the statistics gains the row sums of the product. -/
theorem k1_pay4_sum (y : Vec Ideal S1x256x2048 .bf16) (s b : Vec Ideal S1x2048 .f32) (w : Vec Ideal S2048x2048 .f32) (st : Vec Ideal S2x2048 .f32) (o : Fin 2048) :
    k1_pay4 y s b w st (ix2 0 o) = st (ix2 0 o) + ∑ r : Fin 256, k1_pay1 y s b w (ix2 o r) := by
  pointwise [k1_pay4]

/-- Row 1 of the statistics gains the row sums of the squares. -/
theorem k1_pay4_sq (y : Vec Ideal S1x256x2048 .bf16) (s b : Vec Ideal S1x2048 .f32) (w : Vec Ideal S2048x2048 .f32) (st : Vec Ideal S2x2048 .f32) (o : Fin 2048) :
    k1_pay4 y s b w st (ix2 1 o) = st (ix2 1 o) + ∑ r : Fin 256, k1_pay1 y s b w (ix2 o r) * k1_pay1 y s b w (ix2 o r) := by
  pointwise [k1_pay4]

/-- The third body: scale, shift, clamp. -/
theorem k2_pay1_at (y : Vec Ideal S1x2048x1024 .bf16) (s b : Vec Ideal S2048x1 .f32) (o : Fin 2048) (n : Fin 1024) :
    k2_pay1 y s b (ix3 0 o n) = max (y (ix3 0 o n) * s (ix2 o 0) + b (ix2 o 0)) 0 := by
  pointwise [k2_pay1]

/-- One entry of the one-hot matrix: whether position `x` is the word `w`, as a number. -/
def hot (x : Fin 1024) (w : BitVec 32) : EReal :=
  FloatOps.sitofp (F := Ideal) FTy.f32 (BitVec.setWidth 32 (IntOp.cmpi CmpIPredicate.eq (BitVec.ofNat 32 x.val) w))

/-- A chain of eight maxima is the supremum of the eight. -/
theorem max8 (g : Fin 8 → EReal) :
    max (max (max (max (max (max (max (g 0) (g 1)) (g 2)) (g 3)) (g 4)) (g 5)) (g 6)) (g 7) = Finset.univ.sup g := by
  apply le_antisymm
  · simp only [max_le_iff]
    refine ⟨⟨⟨⟨⟨⟨⟨?_, ?_⟩, ?_⟩, ?_⟩, ?_⟩, ?_⟩, ?_⟩, ?_⟩ <;> exact Finset.le_sup (f := g) (Finset.mem_univ _)
  · refine Finset.sup_le fun k _ => ?_
    fin_cases k <;> simp [le_max_iff]

/-- The fourth body: the largest over the eight neighbours of the one-hot product plus the position term. -/
theorem k3_pay1_at (q : Vec Ideal S1x8x128 .i32) (y : Vec Ideal S1x2048x1024 .bf16) (p : Vec Ideal S1x2048x8x128 .f32) (o : Fin 2048) (n : Fin 128) :
    k3_pay1 q y p (ix3 0 o n)
      = Finset.univ.sup fun k : Fin 8 => (∑ x : Fin 1024, y (ix3 0 o x) * hot x (q (ix3 0 k n))) + p (ix4 0 o k n) := by
  rw [← max8]
  pointwise [k3_pay1, hot]
  have hn := n.isLt
  have e0 : (⟨n.val / 128, by omega⟩ : Fin 8) = 0 := Fin.ext (by show n.val / 128 = 0; omega)
  have e0' : (⟨n.val % 128, by omega⟩ : Fin 128) = n := Fin.ext (by show n.val % 128 = n.val; omega)
  have e1 : (⟨(128 + n.val) / 128, by omega⟩ : Fin 8) = 1 := Fin.ext (by show (128 + n.val) / 128 = 1; omega)
  have e2 : (⟨(256 + n.val) / 128, by omega⟩ : Fin 8) = 2 := Fin.ext (by show (256 + n.val) / 128 = 2; omega)
  have e3 : (⟨(384 + n.val) / 128, by omega⟩ : Fin 8) = 3 := Fin.ext (by show (384 + n.val) / 128 = 3; omega)
  have e4 : (⟨(512 + n.val) / 128, by omega⟩ : Fin 8) = 4 := Fin.ext (by show (512 + n.val) / 128 = 4; omega)
  have e5 : (⟨(640 + n.val) / 128, by omega⟩ : Fin 8) = 5 := Fin.ext (by show (640 + n.val) / 128 = 5; omega)
  have e6 : (⟨(768 + n.val) / 128, by omega⟩ : Fin 8) = 6 := Fin.ext (by show (768 + n.val) / 128 = 6; omega)
  have e7 : (⟨(896 + n.val) / 128, by omega⟩ : Fin 8) = 7 := Fin.ext (by show (896 + n.val) / 128 = 7; omega)
  simp only [e0, e0', e1, e2, e3, e4, e5, e6, e7]

/-- The one-hot entry is one at the word's own position and zero elsewhere. -/
theorem hot_eq (x : Fin 1024) (w : BitVec 32) : hot x w = if x.val = w.toNat then 1 else 0 := by
  have hx := x.isLt
  unfold hot
  by_cases h : x.val = w.toNat
  · rw [if_pos h]
    have e : BitVec.ofNat 32 x.val = w := BitVec.eq_of_toNat_eq (by rw [BitVec.toNat_ofNat, h]; omega)
    rw [e]
    have e1 : IntOp.cmpi CmpIPredicate.eq w w = 1#1 := by simp [IntOp.cmpi]
    rw [e1]
    show (((BitVec.setWidth 32 1#1).toInt : ℝ) : EReal) = 1
    simp
  · rw [if_neg h]
    have e1 : IntOp.cmpi CmpIPredicate.eq (BitVec.ofNat 32 x.val) w = 0#1 := by
      have : BitVec.ofNat 32 x.val ≠ w := fun e => h (by rw [← e, BitVec.toNat_ofNat]; omega)
      simp only [IntOp.cmpi]
      rw [beq_eq_false_iff_ne.mpr this]; rfl
    rw [e1]
    show (((BitVec.setWidth 32 0#1).toInt : ℝ) : EReal) = 0
    simp

/-- So the one-hot product picks the entry the word names. -/
theorem hot_pick (y : Fin 1024 → EReal) (w : BitVec 32) (hw : w.toNat < 1024) :
    ∑ x : Fin 1024, y x * hot x w = y ⟨w.toNat, hw⟩ := by
  rw [Finset.sum_eq_single (⟨w.toNat, hw⟩ : Fin 1024)]
  · rw [hot_eq, if_pos rfl, mul_one]
  · intro x _ hx
    rw [hot_eq, if_neg fun e => hx (Fin.ext e), mul_zero]
  · intro h; exact absurd (Finset.mem_univ _) h

end Cert.KernelIdeal.Val
-- ==== Proof.Tiles.lean ====
module

public import proofs.«01_k».proof.Proof.Gen.KernelIdeal
public import Idealize.ShloMosaic.Lib.Pointwise

@[expose] public section

noncomputable section

/-! ## Indices of blocks, and a column's sum collected tile by tile -/

namespace Cert.KernelIdeal.Val

open Cert.KernelIdeal Cert.KernelIdeal.Gen Idealize.ShloMosaic Idealize.ShloMosaic.Pointwise
open scoped BigOperators

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl
/-- Four zero offsets. -/
theorem hz4 : (![0, 0, 0, 0] : Fin 4 → Nat) = fun _ => 0 := funext fun a => by fin_cases a <;> rfl

/-- An index of a block that is one slab deep is a pair of coordinates behind a zero. -/
theorem slab_idx {p q : ℕ} (j : (⟨3, ![1, p, q]⟩ : Shape).Idx) : ∃ (a : Fin p) (b : Fin q), j = ix3 0 a b :=
  ⟨j 1, j 2, funext fun a => match a with | ⟨0, _⟩ => Subsingleton.elim (α := Fin 1) _ _ | ⟨1, _⟩ => rfl | ⟨2, _⟩ => rfl⟩

/-- A pair index is its two coordinates. -/
theorem pair_idx {p q : ℕ} (j : (⟨2, ![p, q]⟩ : Shape).Idx) : ∃ (a : Fin p) (b : Fin q), j = ix2 a b :=
  ⟨j 0, j 1, funext fun a => match a with | ⟨0, _⟩ => rfl | ⟨1, _⟩ => rfl⟩

/-- A triple index is its three coordinates. -/
theorem triple_idx {p q r : ℕ} (j : (⟨3, ![p, q, r]⟩ : Shape).Idx) : ∃ (a : Fin p) (b : Fin q) (d : Fin r), j = ix3 a b d :=
  ⟨j 0, j 1, j 2, funext fun a => match a with | ⟨0, _⟩ => rfl | ⟨1, _⟩ => rfl | ⟨2, _⟩ => rfl⟩

/-- What tile `s` adds to a sum over four batches of 1024 rows: its 256 rows. -/
def tile (f : Fin 4 → Fin 1024 → EReal) (s : ℕ) : EReal :=
  if h : s < 16 then ∑ r : Fin 256, f ⟨s / 4, by omega⟩ ⟨s % 4 * 256 + r.val, by have := r.isLt; omega⟩ else 0

/-- The sum of the tiles up to and including `n`. -/
def upTo (f : Fin 4 → Fin 1024 → EReal) (n : ℕ) : EReal := ∑ s ∈ Finset.range (n + 1), tile f s

/-- The first tile alone. -/
theorem upTo_zero (f : Fin 4 → Fin 1024 → EReal) : upTo f 0 = tile f 0 := by
  unfold upTo; rw [Finset.sum_range_one]

/-- One more tile. -/
theorem upTo_succ (f : Fin 4 → Fin 1024 → EReal) (n : ℕ) : upTo f (n + 1) = upTo f n + tile f (n + 1) := by
  unfold upTo; rw [Finset.sum_range_succ]

/-- All sixteen tiles make the whole sum. -/
theorem upTo_last (f : Fin 4 → Fin 1024 → EReal) : upTo f 15 = ∑ b : Fin 4, ∑ n : Fin 1024, f b n := by
  unfold upTo
  rw [Finset.sum_range, Fin.sum_univ_tiles 4 4 rfl]
  refine Finset.sum_congr rfl fun b _ => ?_
  rw [Fin.sum_univ_tiles 4 256 rfl]
  refine Finset.sum_congr rfl fun u _ => ?_
  have hb := b.isLt
  have hu := u.isLt
  unfold tile
  dsimp only
  rw [dif_pos (by omega)]
  refine Finset.sum_congr rfl fun r _ => ?_
  congr 1
  · exact Fin.ext (by dsimp only; omega)
  · exact Fin.ext (by dsimp only; omega)

/-- Per channel, the sum (row 0) and the sum of squares (row 1) of the tiles up to `n`. -/
def statsUpTo (f : Fin 4 → Fin 1024 → Fin 2048 → EReal) (n : ℕ) : Vec Ideal S2x2048 .f32 := fun i =>
  if (i 0).val = 0 then upTo (fun b r => f b r (i 1)) n else upTo (fun b r => f b r (i 1) * f b r (i 1)) n

/-- Row 0 of the running statistics. -/
theorem statsUpTo_sum (f : Fin 4 → Fin 1024 → Fin 2048 → EReal) (n : ℕ) (o : Fin 2048) :
    statsUpTo f n (ix2 0 o) = upTo (fun b r => f b r o) n := if_pos rfl

/-- Row 1 of the running statistics. -/
theorem statsUpTo_sq (f : Fin 4 → Fin 1024 → Fin 2048 → EReal) (n : ℕ) (o : Fin 2048) :
    statsUpTo f n (ix2 1 o) = upTo (fun b r => f b r o * f b r o) n := if_neg (by show ¬(1 : ℕ) = 0; omega)

end Cert.KernelIdeal.Val

end
-- ==== Proof.Region0.lean ====
module

public import proofs.«01_k».proof.Proof.Gen.KernelIdeal.Frame
public import proofs.«01_k».proof.Proof.Pay
public import proofs.«01_k».proof.Proof.Tiles
public import Idealize.ShloMosaic.Lib.Pipeline.Value
public import Idealize.ShloMosaic.Lib.Tactic

@[expose] public section

set_option maxRecDepth 16384

noncomputable section

/-! ## The first region: the first product, and its column statistics collected over the grid -/

namespace Cert.KernelIdeal.Val

open Cert.KernelIdeal Cert.KernelIdeal.Gen Idealize.ShloMosaic Idealize.ShloMosaic.TcCoe Idealize.ShloMosaic.Pointwise
open Idealize.ShloMosaic.Pipeline (Dat)
open scoped BigOperators

/-- One entry of the first product. -/
def y0 (X : Vec Ideal S4x1024x1024 .f32) (W : Vec Ideal S2048x1024 .f32) (b : Fin 4) (n : Fin 1024) (o : Fin 2048) : EReal :=
  ∑ k : Fin 1024, X (ix3 b k n) * W (ix2 o k)

/-- The first product as an array. -/
def out0 (X : Vec Ideal S4x1024x1024 .f32) (W : Vec Ideal S2048x1024 .f32) : Vec Ideal S4x1024x2048 .bf16 := fun i =>
  y0 X W (i 0) (i 1) (i 2)

/-- Point `t` works on batch `t / 4` and row block `t % 4`. -/
theorem index0 : ∀ t : Fin grid0.N,
    (win0_0.index t 0 = t.val / 4 ∧ win0_0.index t 1 = 0 ∧ win0_0.index t 2 = t.val % 4)
    ∧ (win0_1.index t 0 = 0 ∧ win0_1.index t 1 = 0)
    ∧ (win0_2.index t 0 = t.val / 4 ∧ win0_2.index t 1 = t.val % 4 ∧ win0_2.index t 2 = 0)
    ∧ (win0_3.index t 0 = 0 ∧ win0_3.index t 1 = 0) := by decide +kernel

section Cases
variable (c : Dev nD) (i : grid0.Coords) (a2 : Memref sig .tc .vmem S1x1024x256 .f32) (h2 : a2.IsWhole)
  (a3 : Memref sig .tc .vmem S2048x1024 .f32) (h3 : a3.IsWhole) (a4 : Memref sig .tc .vmem S1x256x2048 .bf16) (h4 : a4.IsWhole)
  (a5 : Memref sig .tc .vmem S2x2048 .f32) (h5 : a5.IsWhole)
  (x : Vec Ideal S1x1024x256 .f32) (w : Vec Ideal S2048x1024 .f32) (s : Vec Ideal S2x2048 .f32)

/-- The first point's block of the product. -/
theorem first0_2 (hc : cond0_0 i) : out0_A_2 c i a2 h2 a3 h3 a4 h4 a5 h5 hc x w = k0_pay2 x w := by
  unfold out0_A_2
  rw [View.read_writes_eq_canon _ _ _ (cover0_A_2 c i a2 h2 a3 h3 a4 h4 a5 h5 hc x w)]
  unfold kernelRun0_A
  dsimp only
  rw [View.canon_unit_zero hz3]
  simp only [View.readAt_eq_ld, h2.read_unread, h3.read_unread, View.ld_unit_zero (S := S1x1024x256) hz3,
    View.ld_unit_zero (S := S2048x1024) hz2]

/-- The first point's statistics start from the zero block. -/
theorem first0_3 (hc : cond0_0 i) : out0_A_3 c i a2 h2 a3 h3 a4 h4 a5 h5 hc x w = k0_pay4 x w (k0_pay3 (F := Ideal)) := by
  unfold out0_A_3
  rw [View.read_writes_eq_canon _ _ _ (cover0_A_3 c i a2 h2 a3 h3 a4 h4 a5 h5 hc x w)]
  unfold kernelRun0_A
  dsimp only
  sl_unfold_words
  rw [View.canon_cons_unit_zero (S := S2x2048) hz2, View.readCov_unit_zero (S := S2x2048) _ hz2]
  simp only [View.readAt_eq_ld, h2.read_unread, h3.read_unread, View.ld_unit_zero (S := S1x1024x256) hz3,
    View.ld_unit_zero (S := S2048x1024) hz2]

/-- A later point's block of the product. -/
theorem later0_2 (hc : ¬cond0_0 i) : out0_B_2 c i a2 h2 a3 h3 a4 h4 a5 h5 hc x w s = k0_pay2 x w := by
  unfold out0_B_2
  rw [View.read_writes_eq_canon _ _ _ (cover0_B_2 c i a2 h2 a3 h3 a4 h4 a5 h5 hc x w s)]
  unfold kernelRun0_B
  dsimp only
  rw [View.canon_unit_zero hz3]
  simp only [View.readAt_eq_ld, h2.read_unread, h3.read_unread, View.ld_unit_zero (S := S1x1024x256) hz3,
    View.ld_unit_zero (S := S2048x1024) hz2]

/-- A later point adds to the statistics it finds. -/
theorem later0_3 (hc : ¬cond0_0 i) : out0_B_3 c i a2 h2 a3 h3 a4 h4 a5 h5 hc x w s = k0_pay4 x w s := by
  unfold out0_B_3
  rw [View.read_writes_eq_canon _ _ _ (cover0_B_3 c i a2 h2 a3 h3 a4 h4 a5 h5 hc x w s)]
  unfold kernelRun0_B
  dsimp only
  rw [View.canon_unit_zero hz2]
  simp only [View.readAt_eq_ld, h2.read_unread, h3.read_unread, h5.read_unread, View.ld_unit_zero (S := S1x1024x256) hz3,
    View.ld_unit_zero (S := S2048x1024) hz2, View.ld_unit_zero (S := S2x2048) hz2]

end Cases

variable (V : (c : Dev nD) → (b : Ref sig .tc) → Buf (Elt Ideal) ((c : Thread nD τ).loc b)) (c : Dev nD)

/-- The batch of a point. -/
abbrev bt0 (t : Fin cfg0.N) : Fin 4 := ⟨t.val / 4, by have := t.isLt; have h : cfg0.N = 16 := N_0; omega⟩
/-- The row of a point's block. -/
abbrev rw0 (t : Fin cfg0.N) (r : Fin 256) : Fin 1024 := ⟨t.val % 4 * 256 + r.val, by have := r.isLt; omega⟩

/-- A point's block of the input. -/
theorem blk0_0 (t : Fin cfg0.N) (k : Fin 1024) (r : Fin 256) :
    (iblk0 V c 0 t : Vec Ideal S1x1024x256 .f32) (ix3 0 k r) = V c main_arg1 (ix3 (bt0 t) k (rw0 t r)) := by
  have h := (index0 t).1
  unfold iblk0
  rw [View.read_apply]
  show V c main_arg1 _ = _
  congr 1
  funext a
  apply Fin.ext
  match a with
  | ⟨0, _⟩ => show win0_0.index t 0 * 1 + 1 * 0 = t.val / 4; rw [h.1]; omega
  | ⟨1, _⟩ => show win0_0.index t 1 * 1024 + 1 * k.val = k.val; rw [h.2.1]; omega
  | ⟨2, _⟩ => show win0_0.index t 2 * 256 + 1 * r.val = t.val % 4 * 256 + r.val; rw [h.2.2]; omega

/-- A point's block of the weights is all of them. -/
theorem blk0_1 (t : Fin cfg0.N) (o : Fin 2048) (k : Fin 1024) :
    (iblk0 V c 1 t : Vec Ideal S2048x1024 .f32) (ix2 o k) = V c main_arg4 (ix2 o k) := by
  have h := (index0 t).2.1
  unfold iblk0
  rw [View.read_apply]
  show V c main_arg4 _ = _
  congr 1
  funext a
  apply Fin.ext
  match a with
  | ⟨0, _⟩ => show win0_1.index t 0 * 2048 + 1 * o.val = o.val; rw [h.1]; omega
  | ⟨1, _⟩ => show win0_1.index t 1 * 1024 + 1 * k.val = k.val; rw [h.2]; omega

/-- A point's block of the product array. -/
theorem blk0_2 (G : Vec Ideal S4x1024x2048 .bf16) (t : Fin cfg0.N) (r : Fin 256) (o : Fin 2048) :
    (((cfg0.win 2).blk t).view.read (Elt Ideal) G : Vec Ideal S1x256x2048 .bf16) (ix3 0 r o) = G (ix3 (bt0 t) (rw0 t r) o) := by
  have h := (index0 t).2.2.1
  rw [View.read_apply]
  show G _ = _
  congr 1
  funext a
  apply Fin.ext
  match a with
  | ⟨0, _⟩ => show win0_2.index t 0 * 1 + 1 * 0 = t.val / 4; rw [h.1]; omega
  | ⟨1, _⟩ => show win0_2.index t 1 * 256 + 1 * r.val = t.val % 4 * 256 + r.val; rw [h.2.1]; omega
  | ⟨2, _⟩ => show win0_2.index t 2 * 2048 + 1 * o.val = o.val; rw [h.2.2]; omega

/-- A point's block of the statistics array is all of it. -/
theorem blk0_3 (G : Vec Ideal S2x2048 .f32) (t : Fin cfg0.N) (a : Fin 2) (o : Fin 2048) :
    (((cfg0.win 3).blk t).view.read (Elt Ideal) G : Vec Ideal S2x2048 .f32) (ix2 a o) = G (ix2 a o) := by
  have h := (index0 t).2.2.2
  rw [View.read_apply]
  show G _ = _
  congr 1
  funext d
  apply Fin.ext
  match d with
  | ⟨0, _⟩ => show win0_3.index t 0 * 2 + 1 * a.val = a.val; rw [h.1]; omega
  | ⟨1, _⟩ => show win0_3.index t 1 * 2048 + 1 * o.val = o.val; rw [h.2]; omega

/-- A point's product is its rows of the whole product. -/
theorem prod0 (t : Fin cfg0.N) (r : Fin 256) (o : Fin 2048) :
    k0_pay1 (iblk0 V c 0 t) (iblk0 V c 1 t) (ix2 r o) = y0 (V c main_arg1) (V c main_arg4) (bt0 t) (rw0 t r) o := by
  rw [k0_pay1_at]
  unfold y0
  refine Finset.sum_congr rfl fun k _ => ?_
  rw [blk0_0 V c t k r, blk0_1 V c t o k]

/-- A point's tile of a column's sum, for any function of the entry. -/
theorem tile0 (g : EReal → EReal) (t : Fin cfg0.N) (o : Fin 2048) :
    (∑ r : Fin 256, g (k0_pay1 (iblk0 V c 0 t) (iblk0 V c 1 t) (ix2 r o)))
      = tile (fun b n => g (y0 (V c main_arg1) (V c main_arg4) b n o)) t.val := by
  have hN : cfg0.N = 16 := N_0
  unfold tile
  rw [dif_pos (by have := t.isLt; omega)]
  exact Finset.sum_congr rfl fun r _ => congrArg g (prod0 V c t r o)

/-- Whichever point it is, the product's staging block holds the point's product. -/
theorem held0 (t : Fin cfg0.N) : (outsAt0 V c t.val t.isLt).1 = k0_pay2 (iblk0 V c 0 t) (iblk0 V c 1 t) := by
  by_cases h : t.val % 16 = 0
  · rw [outsAt0_A V c t h]; dsimp only; rw [first0_2]
  · rw [outsAt0_B V c t h]; dsimp only; rw [later0_2]

/-- One point's statistics on top of what it starts from. -/
theorem step0 (t : Fin cfg0.N) (s : Vec Ideal S2x2048 .f32) (p q : Fin 2048 → EReal)
    (hp : ∀ o, s (ix2 0 o) = p o) (hq : ∀ o, s (ix2 1 o) = q o) :
    k0_pay4 (iblk0 V c 0 t) (iblk0 V c 1 t) s = fun i : S2x2048.Idx =>
      if (i 0).val = 0 then p (i 1) + tile (fun b n => y0 (V c main_arg1) (V c main_arg4) b n (i 1)) t.val
      else q (i 1) + tile (fun b n => y0 (V c main_arg1) (V c main_arg4) b n (i 1) * y0 (V c main_arg1) (V c main_arg4) b n (i 1)) t.val := by
  refine funext fun (j : S2x2048.Idx) => ?_
  obtain ⟨a, o, rfl⟩ := pair_idx j
  match a with
  | ⟨0, _⟩ => exact (k0_pay4_sum _ _ _ o).trans ((congrArg₂ (· + ·) (hp o) (tile0 V c (fun z => z) t o)).trans (if_pos rfl).symm)
  | ⟨1, _⟩ => exact (k0_pay4_sq _ _ _ o).trans ((congrArg₂ (· + ·) (hq o) (tile0 V c (fun z => z * z) t o)).trans (if_neg (by show ¬(1 : ℕ) = 0; omega)).symm)

/-- After point `n` the statistics' staging block holds the sums of the tiles so far. -/
theorem stats0 : ∀ (n : ℕ) (h : n < cfg0.N), (outsAt0 V c n h).2 = statsUpTo (y0 (V c main_arg1) (V c main_arg4)) n
  | 0, h => by
    rw [outsAt0_A V c ⟨0, h⟩ rfl]
    dsimp only
    rw [first0_3, step0 V c ⟨0, h⟩ (k0_pay3 (F := Ideal)) (fun _ => 0) (fun _ => 0) (fun o => k0_pay3_at 0 o) (fun o => k0_pay3_at 1 o)]
    unfold statsUpTo
    simp only [zero_add, upTo_zero]
  | n + 1, h => by
    have hN : cfg0.N = 16 := N_0
    have hB : ¬(⟨n + 1, h⟩ : Fin cfg0.N).val % 16 = 0 := by dsimp only; omega
    rw [outsAt0_B V c ⟨n + 1, h⟩ hB]
    dsimp only
    rw [later0_3, step0 V c ⟨n + 1, h⟩ _ _ _
      (fun o => (congrFun (stats0 n (by omega)) (ix2 0 o)).trans (statsUpTo_sum _ n o))
      (fun o => (congrFun (stats0 n (by omega)) (ix2 1 o)).trans (statsUpTo_sq _ n o))]
    unfold statsUpTo
    simp only [upTo_succ]

/-- What a point writes back of the product. -/
theorem flushed0_2 (t : Fin cfg0.N) :
    (dat0 V c).flushed 2 t = ((cfg0.win 2).blk t).view.read (Elt Ideal) (out0 (V c main_arg1) (V c main_arg4)) := by
  show (cfg0.win 2).cut (grid0.coords t) ((dat0 V c).after 2 t) = _
  rw [after0_2, held0]
  refine funext fun (j : S1x256x2048.Idx) => ?_
  obtain ⟨r, o, rfl⟩ := slab_idx j
  refine Eq.trans ?_ (blk0_2 _ t r o).symm
  show k0_pay2 (iblk0 V c 0 t) (iblk0 V c 1 t) (ix3 0 r o) = _
  rw [k0_pay2_at, prod0]
  rfl

/-- What the last point writes back of the statistics. -/
theorem flushed0_3 (t : Fin cfg0.N) (hf : (cfg0.win 3).flush t = true) :
    (dat0 V c).flushed 3 t = ((cfg0.win 3).blk t).view.read (Elt Ideal) (statsUpTo (y0 (V c main_arg1) (V c main_arg4)) 15) := by
  have hN : cfg0.N = 16 := N_0
  have h15 : t.val = 15 := by have := (flush0_3 t).mp hf; have := t.isLt; omega
  show (cfg0.win 3).cut (grid0.coords t) ((dat0 V c).after 3 t) = _
  rw [after0_3, stats0]
  refine funext fun (j : S2x2048.Idx) => ?_
  obtain ⟨a, o, rfl⟩ := pair_idx j
  refine Eq.trans ?_ (blk0_3 _ t a o).symm
  rw [h15]
  rfl

/-- An index of the product lies in the block of its batch and row block. -/
theorem mem0_2 (t : Fin cfg0.N) (i : S4x1024x2048.Idx) :
    i ∈ ((cfg0.win 2).blk t).view.set ↔ ∀ a, win0_2.index t a * win0_2.size a ≤ (i a : Nat) ∧ (i a : Nat) < win0_2.index t a * win0_2.size a + win0_2.xsize (grid0.coords t) a := by
  show i ∈ ((View.whole main_v0_0).slice (win0_2.rect t)).set ↔ _
  rw [View.set_slice_whole, Rect.mem_set_unit]

/-- An index of the statistics lies in the one block there is. -/
theorem mem0_3 (t : Fin cfg0.N) (i : S2x2048.Idx) :
    i ∈ ((cfg0.win 3).blk t).view.set ↔ ∀ a, win0_3.index t a * win0_3.size a ≤ (i a : Nat) ∧ (i a : Nat) < win0_3.index t a * win0_3.size a + win0_3.xsize (grid0.coords t) a := by
  show i ∈ ((View.whole main_v0_1).slice (win0_3.rect t)).set ↔ _
  rw [View.set_slice_whole, Rect.mem_set_unit]

/-- The product array ends at the first product. -/
theorem final0_2 : (dat0 V c).arrAt 2 cfg0.N = out0 (V c main_arg1) (V c main_arg4) :=
  (dat0 V c).arrAt_eq_of_cover 2 _ (fun t _ => flushed0_2 V c t) fun (i : S4x1024x2048.Idx) => by
    have h0 : (i 0 : Nat) < 4 := (i 0).isLt
    have h1 : (i 1 : Nat) < 1024 := (i 1).isLt
    have h2 : (i 2 : Nat) < 2048 := (i 2).isLt
    have hN : cfg0.N = 16 := N_0
    refine ⟨⟨(i 0 : Nat) * 4 + (i 1 : Nat) / 256, by omega⟩, flush0_2 _, ?_⟩
    have h := (index0 ⟨(i 0 : Nat) * 4 + (i 1 : Nat) / 256, by rw [N_0]; omega⟩).2.2.1
    rw [mem0_2]
    intro a
    match a with
    | ⟨0, _⟩ => show win0_2.index _ 0 * 1 ≤ (i 0 : Nat) ∧ (i 0 : Nat) < win0_2.index _ 0 * 1 + 1; rw [h.1]; dsimp only; omega
    | ⟨1, _⟩ => show win0_2.index _ 1 * 256 ≤ (i 1 : Nat) ∧ (i 1 : Nat) < win0_2.index _ 1 * 256 + 256; rw [h.2.1]; dsimp only; omega
    | ⟨2, _⟩ => show win0_2.index _ 2 * 2048 ≤ (i 2 : Nat) ∧ (i 2 : Nat) < win0_2.index _ 2 * 2048 + 2048; rw [h.2.2]; omega

/-- The statistics array ends at the whole sums. -/
theorem final0_3 : (dat0 V c).arrAt 3 cfg0.N = statsUpTo (y0 (V c main_arg1) (V c main_arg4)) 15 :=
  (dat0 V c).arrAt_eq_of_cover 3 _ (flushed0_3 V c) fun (i : S2x2048.Idx) => by
    have h0 : (i 0 : Nat) < 2 := (i 0).isLt
    have h1 : (i 1 : Nat) < 2048 := (i 1).isLt
    have hN : cfg0.N = 16 := N_0
    refine ⟨⟨15, by omega⟩, (flush0_3 _).mpr rfl, ?_⟩
    have h := (index0 ⟨15, by rw [N_0]; omega⟩).2.2.2
    rw [mem0_3]
    intro a
    match a with
    | ⟨0, _⟩ => show win0_3.index _ 0 * 2 ≤ (i 0 : Nat) ∧ (i 0 : Nat) < win0_3.index _ 0 * 2 + 2; rw [h.1]; omega
    | ⟨1, _⟩ => show win0_3.index _ 1 * 2048 ≤ (i 1 : Nat) ∧ (i 1 : Nat) < win0_3.index _ 1 * 2048 + 2048; rw [h.2]; omega

end Cert.KernelIdeal.Val

end
-- ==== Proof.Region1.lean ====
module

public import proofs.«01_k».proof.Proof.Gen.KernelIdeal.Frame
public import proofs.«01_k».proof.Proof.Pay
public import proofs.«01_k».proof.Proof.Tiles
public import Idealize.ShloMosaic.Lib.Pipeline.Value
public import Idealize.ShloMosaic.Lib.Tactic

@[expose] public section

set_option maxRecDepth 16384

noncomputable section

/-! ## The second region: batch normalisation and the larger of that and zero, the second product, and its statistics -/

namespace Cert.KernelIdeal.Val

open Cert.KernelIdeal Cert.KernelIdeal.Gen Idealize.ShloMosaic Idealize.ShloMosaic.TcCoe Idealize.ShloMosaic.Pointwise
open Idealize.ShloMosaic.Pipeline (Dat)
open scoped BigOperators

/-- One entry of the second product. -/
def y1 (Y : Vec Ideal S4x1024x2048 .bf16) (S B : Vec Ideal S1x2048 .f32) (W : Vec Ideal S2048x2048 .f32)
    (b : Fin 4) (n : Fin 1024) (o : Fin 2048) : EReal :=
  ∑ k : Fin 2048, W (ix2 o k) * max (Y (ix3 b n k) * S (ix2 0 k) + B (ix2 0 k)) 0

/-- The second product as an array, channels before rows. -/
def out1 (Y : Vec Ideal S4x1024x2048 .bf16) (S B : Vec Ideal S1x2048 .f32) (W : Vec Ideal S2048x2048 .f32) :
    Vec Ideal S4x2048x1024 .bf16 := fun i => y1 Y S B W (i 0) (i 2) (i 1)

/-- Point `t` works on batch `t / 4` and row block `t % 4`. -/
theorem index1 : ∀ t : Fin grid1.N,
    (win1_0.index t 0 = t.val / 4 ∧ win1_0.index t 1 = t.val % 4 ∧ win1_0.index t 2 = 0)
    ∧ (win1_1.index t 0 = 0 ∧ win1_1.index t 1 = 0)
    ∧ (win1_2.index t 0 = 0 ∧ win1_2.index t 1 = 0)
    ∧ (win1_3.index t 0 = 0 ∧ win1_3.index t 1 = 0)
    ∧ (win1_4.index t 0 = t.val / 4 ∧ win1_4.index t 1 = 0 ∧ win1_4.index t 2 = t.val % 4)
    ∧ (win1_5.index t 0 = 0 ∧ win1_5.index t 1 = 0) := by decide +kernel

section Cases
variable (c : Dev nD) (i : grid1.Coords) (a2 : Memref sig .tc .vmem S1x256x2048 .bf16) (h2 : a2.IsWhole)
  (a3 : Memref sig .tc .vmem S1x2048 .f32) (h3 : a3.IsWhole) (a4 : Memref sig .tc .vmem S1x2048 .f32) (h4 : a4.IsWhole)
  (a5 : Memref sig .tc .vmem S2048x2048 .f32) (h5 : a5.IsWhole) (a6 : Memref sig .tc .vmem S1x2048x256 .bf16) (h6 : a6.IsWhole)
  (a7 : Memref sig .tc .vmem S2x2048 .f32) (h7 : a7.IsWhole)
  (y : Vec Ideal S1x256x2048 .bf16) (p q : Vec Ideal S1x2048 .f32) (w : Vec Ideal S2048x2048 .f32) (s : Vec Ideal S2x2048 .f32)

/-- The first point's block of the product. -/
theorem first1_4 (hc : cond1_0 i) :
    out1_A_4 c i a2 h2 a3 h3 a4 h4 a5 h5 a6 h6 a7 h7 hc y p q w = k1_pay2 y p q w := by
  unfold out1_A_4
  rw [View.read_writes_eq_canon _ _ _ (cover1_A_4 c i a2 h2 a3 h3 a4 h4 a5 h5 a6 h6 a7 h7 hc y p q w)]
  unfold kernelRun1_A
  dsimp only
  rw [View.canon_unit_zero hz3]
  simp only [View.readAt_eq_ld, h2.read_unread, h3.read_unread, h4.read_unread, h5.read_unread,
    View.ld_unit_zero (S := S1x256x2048) hz3, View.ld_unit_zero (S := S1x2048) hz2, View.ld_unit_zero (S := S2048x2048) hz2]

/-- The first point's statistics start from the zero block. -/
theorem first1_5 (hc : cond1_0 i) :
    out1_A_5 c i a2 h2 a3 h3 a4 h4 a5 h5 a6 h6 a7 h7 hc y p q w = k1_pay4 y p q w (k1_pay3 (F := Ideal)) := by
  unfold out1_A_5
  rw [View.read_writes_eq_canon _ _ _ (cover1_A_5 c i a2 h2 a3 h3 a4 h4 a5 h5 a6 h6 a7 h7 hc y p q w)]
  unfold kernelRun1_A
  dsimp only
  sl_unfold_words
  rw [View.canon_cons_unit_zero (S := S2x2048) hz2, View.readCov_unit_zero (S := S2x2048) _ hz2]
  simp only [View.readAt_eq_ld, h2.read_unread, h3.read_unread, h4.read_unread, h5.read_unread,
    View.ld_unit_zero (S := S1x256x2048) hz3, View.ld_unit_zero (S := S1x2048) hz2, View.ld_unit_zero (S := S2048x2048) hz2]

/-- A later point's block of the product. -/
theorem later1_4 (hc : ¬cond1_0 i) :
    out1_B_4 c i a2 h2 a3 h3 a4 h4 a5 h5 a6 h6 a7 h7 hc y p q w s = k1_pay2 y p q w := by
  unfold out1_B_4
  rw [View.read_writes_eq_canon _ _ _ (cover1_B_4 c i a2 h2 a3 h3 a4 h4 a5 h5 a6 h6 a7 h7 hc y p q w s)]
  unfold kernelRun1_B
  dsimp only
  rw [View.canon_unit_zero hz3]
  simp only [View.readAt_eq_ld, h2.read_unread, h3.read_unread, h4.read_unread, h5.read_unread,
    View.ld_unit_zero (S := S1x256x2048) hz3, View.ld_unit_zero (S := S1x2048) hz2, View.ld_unit_zero (S := S2048x2048) hz2]

/-- A later point adds to the statistics it finds. -/
theorem later1_5 (hc : ¬cond1_0 i) :
    out1_B_5 c i a2 h2 a3 h3 a4 h4 a5 h5 a6 h6 a7 h7 hc y p q w s = k1_pay4 y p q w s := by
  unfold out1_B_5
  rw [View.read_writes_eq_canon _ _ _ (cover1_B_5 c i a2 h2 a3 h3 a4 h4 a5 h5 a6 h6 a7 h7 hc y p q w s)]
  unfold kernelRun1_B
  dsimp only
  sl_unfold_words
  rw [View.canon_unit_zero hz2]
  simp only [View.readAt_eq_ld, h2.read_unread, h3.read_unread, h4.read_unread, h5.read_unread, h7.read_unread,
    View.ld_unit_zero (S := S1x256x2048) hz3, View.ld_unit_zero (S := S1x2048) hz2, View.ld_unit_zero (S := S2048x2048) hz2,
    View.ld_unit_zero (S := S2x2048) hz2]

end Cases

variable (V : (c : Dev nD) → (b : Ref sig .tc) → Buf (Elt Ideal) ((c : Thread nD τ).loc b)) (c : Dev nD)

/-- The batch of a point. -/
abbrev bt1 (t : Fin cfg1.N) : Fin 4 := ⟨t.val / 4, by have := t.isLt; have h : cfg1.N = 16 := N_1; omega⟩
/-- The row of a point's block. -/
abbrev rw1 (t : Fin cfg1.N) (r : Fin 256) : Fin 1024 := ⟨t.val % 4 * 256 + r.val, by have := r.isLt; omega⟩

/-- A point's block of the first product. -/
theorem blk1_0 (t : Fin cfg1.N) (r : Fin 256) (k : Fin 2048) :
    (iblk1 V c 0 t : Vec Ideal S1x256x2048 .bf16) (ix3 0 r k) = V c main_v0_0 (ix3 (bt1 t) (rw1 t r) k) := by
  have h := (index1 t).1
  unfold iblk1
  rw [View.read_apply]
  show V c main_v0_0 _ = _
  congr 1
  funext a
  apply Fin.ext
  match a with
  | ⟨0, _⟩ => show win1_0.index t 0 * 1 + 1 * 0 = t.val / 4; rw [h.1]; omega
  | ⟨1, _⟩ => show win1_0.index t 1 * 256 + 1 * r.val = t.val % 4 * 256 + r.val; rw [h.2.1]; omega
  | ⟨2, _⟩ => show win1_0.index t 2 * 2048 + 1 * k.val = k.val; rw [h.2.2]; omega

/-- A point's block of the scales is all of them. -/
theorem blk1_1 (t : Fin cfg1.N) (k : Fin 2048) :
    (iblk1 V c 1 t : Vec Ideal S1x2048 .f32) (ix2 0 k) = V c main_v17 (ix2 0 k) := by
  have h := (index1 t).2.1
  unfold iblk1
  rw [View.read_apply]
  show V c main_v17 _ = _
  congr 1
  funext a
  apply Fin.ext
  match a with
  | ⟨0, _⟩ => show win1_1.index t 0 * 1 + 1 * 0 = 0; rw [h.1]
  | ⟨1, _⟩ => show win1_1.index t 1 * 2048 + 1 * k.val = k.val; rw [h.2]; omega

/-- A point's block of the shifts is all of them. -/
theorem blk1_2 (t : Fin cfg1.N) (k : Fin 2048) :
    (iblk1 V c 2 t : Vec Ideal S1x2048 .f32) (ix2 0 k) = V c main_v18 (ix2 0 k) := by
  have h := (index1 t).2.2.1
  unfold iblk1
  rw [View.read_apply]
  show V c main_v18 _ = _
  congr 1
  funext a
  apply Fin.ext
  match a with
  | ⟨0, _⟩ => show win1_2.index t 0 * 1 + 1 * 0 = 0; rw [h.1]
  | ⟨1, _⟩ => show win1_2.index t 1 * 2048 + 1 * k.val = k.val; rw [h.2]; omega

/-- A point's block of the weights is all of them. -/
theorem blk1_3 (t : Fin cfg1.N) (o k : Fin 2048) :
    (iblk1 V c 3 t : Vec Ideal S2048x2048 .f32) (ix2 o k) = V c main_arg7 (ix2 o k) := by
  have h := (index1 t).2.2.2.1
  unfold iblk1
  rw [View.read_apply]
  show V c main_arg7 _ = _
  congr 1
  funext a
  apply Fin.ext
  match a with
  | ⟨0, _⟩ => show win1_3.index t 0 * 2048 + 1 * o.val = o.val; rw [h.1]; omega
  | ⟨1, _⟩ => show win1_3.index t 1 * 2048 + 1 * k.val = k.val; rw [h.2]; omega

/-- A point's block of the product array. -/
theorem blk1_4 (G : Vec Ideal S4x2048x1024 .bf16) (t : Fin cfg1.N) (o : Fin 2048) (r : Fin 256) :
    (((cfg1.win 4).blk t).view.read (Elt Ideal) G : Vec Ideal S1x2048x256 .bf16) (ix3 0 o r) = G (ix3 (bt1 t) o (rw1 t r)) := by
  have h := (index1 t).2.2.2.2.1
  rw [View.read_apply]
  show G _ = _
  congr 1
  funext a
  apply Fin.ext
  match a with
  | ⟨0, _⟩ => show win1_4.index t 0 * 1 + 1 * 0 = t.val / 4; rw [h.1]; omega
  | ⟨1, _⟩ => show win1_4.index t 1 * 2048 + 1 * o.val = o.val; rw [h.2.1]; omega
  | ⟨2, _⟩ => show win1_4.index t 2 * 256 + 1 * r.val = t.val % 4 * 256 + r.val; rw [h.2.2]; omega

/-- A point's block of the statistics array is all of it. -/
theorem blk1_5 (G : Vec Ideal S2x2048 .f32) (t : Fin cfg1.N) (a : Fin 2) (o : Fin 2048) :
    (((cfg1.win 5).blk t).view.read (Elt Ideal) G : Vec Ideal S2x2048 .f32) (ix2 a o) = G (ix2 a o) := by
  have h := (index1 t).2.2.2.2.2
  rw [View.read_apply]
  show G _ = _
  congr 1
  funext d
  apply Fin.ext
  match d with
  | ⟨0, _⟩ => show win1_5.index t 0 * 2 + 1 * a.val = a.val; rw [h.1]; omega
  | ⟨1, _⟩ => show win1_5.index t 1 * 2048 + 1 * o.val = o.val; rw [h.2]; omega

/-- The second product the region computes from the arrays it reads. -/
abbrev res1 : Fin 4 → Fin 1024 → Fin 2048 → EReal := y1 (V c main_v0_0) (V c main_v17) (V c main_v18) (V c main_arg7)

/-- A point's product is its columns of the whole product. -/
theorem prod1 (t : Fin cfg1.N) (o : Fin 2048) (r : Fin 256) :
    k1_pay1 (iblk1 V c 0 t) (iblk1 V c 1 t) (iblk1 V c 2 t) (iblk1 V c 3 t) (ix2 o r) = res1 V c (bt1 t) (rw1 t r) o := by
  rw [k1_pay1_at]
  unfold res1 y1
  refine Finset.sum_congr rfl fun k _ => ?_
  rw [blk1_0 V c t r k, blk1_1 V c t k, blk1_2 V c t k, blk1_3 V c t o k]

/-- A point's tile of a channel's sum, for any function of the entry. -/
theorem tile1 (g : EReal → EReal) (t : Fin cfg1.N) (o : Fin 2048) :
    (∑ r : Fin 256, g (k1_pay1 (iblk1 V c 0 t) (iblk1 V c 1 t) (iblk1 V c 2 t) (iblk1 V c 3 t) (ix2 o r)))
      = tile (fun b n => g (res1 V c b n o)) t.val := by
  have hN : cfg1.N = 16 := N_1
  unfold tile
  rw [dif_pos (by have := t.isLt; omega)]
  exact Finset.sum_congr rfl fun r _ => congrArg g (prod1 V c t o r)

/-- Whichever point it is, the product's staging block holds the point's product. -/
theorem held1 (t : Fin cfg1.N) :
    (outsAt1 V c t.val t.isLt).1 = k1_pay2 (iblk1 V c 0 t) (iblk1 V c 1 t) (iblk1 V c 2 t) (iblk1 V c 3 t) := by
  by_cases h : t.val % 16 = 0
  · rw [outsAt1_A V c t h]; dsimp only; rw [first1_4]
  · rw [outsAt1_B V c t h]; dsimp only; rw [later1_4]

/-- One point's statistics on top of what it starts from. -/
theorem step1 (t : Fin cfg1.N) (s : Vec Ideal S2x2048 .f32) (p q : Fin 2048 → EReal)
    (hp : ∀ o, s (ix2 0 o) = p o) (hq : ∀ o, s (ix2 1 o) = q o) :
    k1_pay4 (iblk1 V c 0 t) (iblk1 V c 1 t) (iblk1 V c 2 t) (iblk1 V c 3 t) s = fun i : S2x2048.Idx =>
      if (i 0).val = 0 then p (i 1) + tile (fun b n => res1 V c b n (i 1)) t.val
      else q (i 1) + tile (fun b n => res1 V c b n (i 1) * res1 V c b n (i 1)) t.val := by
  refine funext fun (j : S2x2048.Idx) => ?_
  obtain ⟨a, o, rfl⟩ := pair_idx j
  match a with
  | ⟨0, _⟩ => exact (k1_pay4_sum _ _ _ _ _ o).trans ((congrArg₂ (· + ·) (hp o) (tile1 V c (fun z => z) t o)).trans (if_pos rfl).symm)
  | ⟨1, _⟩ => exact (k1_pay4_sq _ _ _ _ _ o).trans ((congrArg₂ (· + ·) (hq o) (tile1 V c (fun z => z * z) t o)).trans (if_neg (by show ¬(1 : ℕ) = 0; omega)).symm)

/-- After point `n` the statistics' staging block holds the sums of the tiles so far. -/
theorem stats1 : ∀ (n : ℕ) (h : n < cfg1.N), (outsAt1 V c n h).2 = statsUpTo (res1 V c) n
  | 0, h => by
    rw [outsAt1_A V c ⟨0, h⟩ rfl]
    dsimp only
    rw [first1_5, step1 V c ⟨0, h⟩ (k1_pay3 (F := Ideal)) (fun _ => 0) (fun _ => 0) (fun o => k1_pay3_at 0 o) (fun o => k1_pay3_at 1 o)]
    unfold statsUpTo
    simp only [zero_add, upTo_zero]
  | n + 1, h => by
    have hN : cfg1.N = 16 := N_1
    have hB : ¬(⟨n + 1, h⟩ : Fin cfg1.N).val % 16 = 0 := by dsimp only; omega
    rw [outsAt1_B V c ⟨n + 1, h⟩ hB]
    dsimp only
    rw [later1_5, step1 V c ⟨n + 1, h⟩ _ _ _
      (fun o => (congrFun (stats1 n (by omega)) (ix2 0 o)).trans (statsUpTo_sum _ n o))
      (fun o => (congrFun (stats1 n (by omega)) (ix2 1 o)).trans (statsUpTo_sq _ n o))]
    unfold statsUpTo
    simp only [upTo_succ]

/-- What a point writes back of the product. -/
theorem flushed1_4 (t : Fin cfg1.N) :
    (dat1 V c).flushed 4 t = ((cfg1.win 4).blk t).view.read (Elt Ideal) (out1 (V c main_v0_0) (V c main_v17) (V c main_v18) (V c main_arg7)) := by
  show (cfg1.win 4).cut (grid1.coords t) ((dat1 V c).after 4 t) = _
  rw [after1_4, held1]
  refine funext fun (j : S1x2048x256.Idx) => ?_
  obtain ⟨o, r, rfl⟩ := slab_idx j
  refine Eq.trans ?_ (blk1_4 _ t o r).symm
  show k1_pay2 (iblk1 V c 0 t) (iblk1 V c 1 t) (iblk1 V c 2 t) (iblk1 V c 3 t) (ix3 0 o r) = _
  rw [k1_pay2_at, prod1]
  rfl

/-- What the last point writes back of the statistics. -/
theorem flushed1_5 (t : Fin cfg1.N) (hf : (cfg1.win 5).flush t = true) :
    (dat1 V c).flushed 5 t = ((cfg1.win 5).blk t).view.read (Elt Ideal) (statsUpTo (res1 V c) 15) := by
  have hN : cfg1.N = 16 := N_1
  have h15 : t.val = 15 := by have := (flush1_5 t).mp hf; have := t.isLt; omega
  show (cfg1.win 5).cut (grid1.coords t) ((dat1 V c).after 5 t) = _
  rw [after1_5, stats1]
  refine funext fun (j : S2x2048.Idx) => ?_
  obtain ⟨a, o, rfl⟩ := pair_idx j
  refine Eq.trans ?_ (blk1_5 _ t a o).symm
  rw [h15]
  rfl

/-- An index of the product lies in the block of its batch and column block. -/
theorem mem1_4 (t : Fin cfg1.N) (i : S4x2048x1024.Idx) :
    i ∈ ((cfg1.win 4).blk t).view.set ↔ ∀ a, win1_4.index t a * win1_4.size a ≤ (i a : Nat) ∧ (i a : Nat) < win1_4.index t a * win1_4.size a + win1_4.xsize (grid1.coords t) a := by
  show i ∈ ((View.whole main_v19_0).slice (win1_4.rect t)).set ↔ _
  rw [View.set_slice_whole, Rect.mem_set_unit]

/-- An index of the statistics lies in the one block there is. -/
theorem mem1_5 (t : Fin cfg1.N) (i : S2x2048.Idx) :
    i ∈ ((cfg1.win 5).blk t).view.set ↔ ∀ a, win1_5.index t a * win1_5.size a ≤ (i a : Nat) ∧ (i a : Nat) < win1_5.index t a * win1_5.size a + win1_5.xsize (grid1.coords t) a := by
  show i ∈ ((View.whole main_v19_1).slice (win1_5.rect t)).set ↔ _
  rw [View.set_slice_whole, Rect.mem_set_unit]

/-- The product array ends at the second product. -/
theorem final1_4 : (dat1 V c).arrAt 4 cfg1.N = out1 (V c main_v0_0) (V c main_v17) (V c main_v18) (V c main_arg7) :=
  (dat1 V c).arrAt_eq_of_cover 4 _ (fun t _ => flushed1_4 V c t) fun (i : S4x2048x1024.Idx) => by
    have h0 : (i 0 : Nat) < 4 := (i 0).isLt
    have h1 : (i 1 : Nat) < 2048 := (i 1).isLt
    have h2 : (i 2 : Nat) < 1024 := (i 2).isLt
    have hN : cfg1.N = 16 := N_1
    refine ⟨⟨(i 0 : Nat) * 4 + (i 2 : Nat) / 256, by omega⟩, flush1_4 _, ?_⟩
    have h := (index1 ⟨(i 0 : Nat) * 4 + (i 2 : Nat) / 256, by rw [N_1]; omega⟩).2.2.2.2.1
    rw [mem1_4]
    intro a
    match a with
    | ⟨0, _⟩ => show win1_4.index _ 0 * 1 ≤ (i 0 : Nat) ∧ (i 0 : Nat) < win1_4.index _ 0 * 1 + 1; rw [h.1]; dsimp only; omega
    | ⟨1, _⟩ => show win1_4.index _ 1 * 2048 ≤ (i 1 : Nat) ∧ (i 1 : Nat) < win1_4.index _ 1 * 2048 + 2048; rw [h.2.1]; omega
    | ⟨2, _⟩ => show win1_4.index _ 2 * 256 ≤ (i 2 : Nat) ∧ (i 2 : Nat) < win1_4.index _ 2 * 256 + 256; rw [h.2.2]; dsimp only; omega

/-- The statistics array ends at the whole sums. -/
theorem final1_5 : (dat1 V c).arrAt 5 cfg1.N = statsUpTo (res1 V c) 15 :=
  (dat1 V c).arrAt_eq_of_cover 5 _ (flushed1_5 V c) fun (i : S2x2048.Idx) => by
    have h0 : (i 0 : Nat) < 2 := (i 0).isLt
    have h1 : (i 1 : Nat) < 2048 := (i 1).isLt
    have hN : cfg1.N = 16 := N_1
    refine ⟨⟨15, by omega⟩, (flush1_5 _).mpr rfl, ?_⟩
    have h := (index1 ⟨15, by rw [N_1]; omega⟩).2.2.2.2.2
    rw [mem1_5]
    intro a
    match a with
    | ⟨0, _⟩ => show win1_5.index _ 0 * 2 ≤ (i 0 : Nat) ∧ (i 0 : Nat) < win1_5.index _ 0 * 2 + 2; rw [h.1]; omega
    | ⟨1, _⟩ => show win1_5.index _ 1 * 2048 ≤ (i 1 : Nat) ∧ (i 1 : Nat) < win1_5.index _ 1 * 2048 + 2048; rw [h.2]; omega

end Cert.KernelIdeal.Val

end
-- ==== Proof.Region2.lean ====
module

public import proofs.«01_k».proof.Proof.Gen.KernelIdeal.Frame
public import proofs.«01_k».proof.Proof.Pay
public import proofs.«01_k».proof.Proof.Tiles
public import Idealize.ShloMosaic.Lib.Pipeline.Value

@[expose] public section

set_option maxRecDepth 16384

noncomputable section

/-! ## The third region: the second batch normalisation's scale and shift, then the larger of that and zero -/

namespace Cert.KernelIdeal.Val

open Cert.KernelIdeal Cert.KernelIdeal.Gen Idealize.ShloMosaic Idealize.ShloMosaic.TcCoe Idealize.ShloMosaic.Pointwise
open Idealize.ShloMosaic.Pipeline (Dat)
open scoped BigOperators

/-- What the third region computes from the arrays it reads. -/
def out2 (Y : Vec Ideal S4x2048x1024 .bf16) (s b : Vec Ideal S2048x1 .f32) : Vec Ideal S4x2048x1024 .bf16 := fun i =>
  max (Y i * s (ix2 (i 1) 0) + b (ix2 (i 1) 0)) 0

/-- Point `t` works on batch `t`. -/
theorem index2 : ∀ t : Fin grid2.N,
    (win2_0.index t 0 = t.val ∧ win2_0.index t 1 = 0 ∧ win2_0.index t 2 = 0)
    ∧ (win2_1.index t 0 = 0 ∧ win2_1.index t 1 = 0)
    ∧ (win2_2.index t 0 = 0 ∧ win2_2.index t 1 = 0)
    ∧ (win2_3.index t 0 = t.val ∧ win2_3.index t 1 = 0 ∧ win2_3.index t 2 = 0) := by decide +kernel

variable (V : (c : Dev nD) → (b : Ref sig .tc) → Buf (Elt Ideal) ((c : Thread nD τ).loc b)) (c : Dev nD)

/-- The batch of a point. -/
abbrev bt2 (t : Fin cfg2.N) : Fin 4 := ⟨t.val, by have := t.isLt; have h : cfg2.N = 4 := N_2; omega⟩

/-- A point's block of the second product. -/
theorem blk2_0 (t : Fin cfg2.N) (o : Fin 2048) (n : Fin 1024) :
    (iblk2 V c 0 t : Vec Ideal S1x2048x1024 .bf16) (ix3 0 o n) = V c main_v19_0 (ix3 (bt2 t) o n) := by
  have h := (index2 t).1
  unfold iblk2
  rw [View.read_apply]
  show V c main_v19_0 _ = _
  congr 1
  funext a
  apply Fin.ext
  match a with
  | ⟨0, _⟩ => show win2_0.index t 0 * 1 + 1 * 0 = t.val; rw [h.1]; omega
  | ⟨1, _⟩ => show win2_0.index t 1 * 2048 + 1 * o.val = o.val; rw [h.2.1]; omega
  | ⟨2, _⟩ => show win2_0.index t 2 * 1024 + 1 * n.val = n.val; rw [h.2.2]; omega

/-- A point's block of the scales is all of them. -/
theorem blk2_1 (t : Fin cfg2.N) (o : Fin 2048) :
    (iblk2 V c 1 t : Vec Ideal S2048x1 .f32) (ix2 o 0) = V c main_v36 (ix2 o 0) := by
  have h := (index2 t).2.1
  unfold iblk2
  rw [View.read_apply]
  show V c main_v36 _ = _
  congr 1
  funext a
  apply Fin.ext
  match a with
  | ⟨0, _⟩ => show win2_1.index t 0 * 2048 + 1 * o.val = o.val; rw [h.1]; omega
  | ⟨1, _⟩ => show win2_1.index t 1 * 1 + 1 * 0 = 0; rw [h.2]

/-- A point's block of the shifts is all of them. -/
theorem blk2_2 (t : Fin cfg2.N) (o : Fin 2048) :
    (iblk2 V c 2 t : Vec Ideal S2048x1 .f32) (ix2 o 0) = V c main_v37 (ix2 o 0) := by
  have h := (index2 t).2.2.1
  unfold iblk2
  rw [View.read_apply]
  show V c main_v37 _ = _
  congr 1
  funext a
  apply Fin.ext
  match a with
  | ⟨0, _⟩ => show win2_2.index t 0 * 2048 + 1 * o.val = o.val; rw [h.1]; omega
  | ⟨1, _⟩ => show win2_2.index t 1 * 1 + 1 * 0 = 0; rw [h.2]

/-- A point's block of the result array. -/
theorem blk2_3 (G : Vec Ideal S4x2048x1024 .bf16) (t : Fin cfg2.N) (o : Fin 2048) (n : Fin 1024) :
    (((cfg2.win 3).blk t).view.read (Elt Ideal) G : Vec Ideal S1x2048x1024 .bf16) (ix3 0 o n) = G (ix3 (bt2 t) o n) := by
  have h := (index2 t).2.2.2
  rw [View.read_apply]
  show G _ = _
  congr 1
  funext a
  apply Fin.ext
  match a with
  | ⟨0, _⟩ => show win2_3.index t 0 * 1 + 1 * 0 = t.val; rw [h.1]; omega
  | ⟨1, _⟩ => show win2_3.index t 1 * 2048 + 1 * o.val = o.val; rw [h.2.1]; omega
  | ⟨2, _⟩ => show win2_3.index t 2 * 1024 + 1 * n.val = n.val; rw [h.2.2]; omega

/-- What a point writes back is its block of the region's function. -/
theorem flushed2 (t : Fin cfg2.N) :
    (dat2 V c).flushed 3 t = ((cfg2.win 3).blk t).view.read (Elt Ideal) (out2 (V c main_v19_0) (V c main_v36) (V c main_v37)) := by
  show (cfg2.win 3).cut (grid2.coords t) ((dat2 V c).after 3 t) = _
  rw [after2_3]
  unfold out2_3
  rw [View.canon_unit_zero hz3, View.ld_unit_zero (S := S1x2048x1024) hz3, View.ld_unit_zero (S := S2048x1) hz2,
    View.ld_unit_zero (S := S2048x1) hz2]
  refine funext fun (j : S1x2048x1024.Idx) => ?_
  obtain ⟨o, n, rfl⟩ := slab_idx j
  refine Eq.trans ?_ (blk2_3 _ t o n).symm
  show k2_pay1 (iblk2 V c 0 t) (iblk2 V c 1 t) (iblk2 V c 2 t) (ix3 0 o n) = _
  rw [k2_pay1_at, blk2_0 V c t o n, blk2_1 V c t o, blk2_2 V c t o]
  rfl

/-- An index of the result array lies in the block of its batch. -/
theorem mem2 (t : Fin cfg2.N) (i : S4x2048x1024.Idx) :
    i ∈ ((cfg2.win 3).blk t).view.set ↔ ∀ a, win2_3.index t a * win2_3.size a ≤ (i a : Nat) ∧ (i a : Nat) < win2_3.index t a * win2_3.size a + win2_3.xsize (grid2.coords t) a := by
  show i ∈ ((View.whole main_v38).slice (win2_3.rect t)).set ↔ _
  rw [View.set_slice_whole, Rect.mem_set_unit]

/-- The result array ends at the region's function. -/
theorem final2 : (dat2 V c).arrAt 3 cfg2.N = out2 (V c main_v19_0) (V c main_v36) (V c main_v37) :=
  (dat2 V c).arrAt_eq_of_cover 3 _ (fun t _ => flushed2 V c t) fun (i : S4x2048x1024.Idx) => by
    have h0 : (i 0 : Nat) < 4 := (i 0).isLt
    have h1 : (i 1 : Nat) < 2048 := (i 1).isLt
    have h2 : (i 2 : Nat) < 1024 := (i 2).isLt
    have hN : cfg2.N = 4 := N_2
    refine ⟨⟨(i 0 : Nat), by omega⟩, flush2_3 _, ?_⟩
    have h := (index2 ⟨(i 0 : Nat), by rw [N_2]; omega⟩).2.2.2
    rw [mem2]
    intro a
    match a with
    | ⟨0, _⟩ => show win2_3.index _ 0 * 1 ≤ (i 0 : Nat) ∧ (i 0 : Nat) < win2_3.index _ 0 * 1 + 1; rw [h.1]; dsimp only; omega
    | ⟨1, _⟩ => show win2_3.index _ 1 * 2048 ≤ (i 1 : Nat) ∧ (i 1 : Nat) < win2_3.index _ 1 * 2048 + 2048; rw [h.2.1]; omega
    | ⟨2, _⟩ => show win2_3.index _ 2 * 1024 ≤ (i 2 : Nat) ∧ (i 2 : Nat) < win2_3.index _ 2 * 1024 + 1024; rw [h.2.2]; omega

end Cert.KernelIdeal.Val

end
-- ==== Proof.Region3.lean ====
module

public import proofs.«01_k».proof.Proof.Gen.KernelIdeal.Frame
public import proofs.«01_k».proof.Proof.Pay
public import proofs.«01_k».proof.Proof.Tiles
public import Idealize.ShloMosaic.Lib.Pipeline.Value

@[expose] public section

set_option maxRecDepth 16384

noncomputable section

/-! ## The last region: gather, add the position term, take the largest of eight -/

namespace Cert.KernelIdeal.Val

open Cert.KernelIdeal Cert.KernelIdeal.Gen Idealize.ShloMosaic Idealize.ShloMosaic.TcCoe Idealize.ShloMosaic.Pointwise
open Idealize.ShloMosaic.Pipeline (Dat)
open scoped BigOperators

/-- What the last region computes from the arrays it reads. -/
def out3 (Y : Vec Ideal S4x2048x1024 .bf16) (Q : Vec Ideal S4x8x1024 .i32) (P : Vec Ideal S4x2048x8x1024 .f32) :
    Vec Ideal S4x2048x1024 .f32 := fun i =>
  Finset.univ.sup fun k : Fin 8 =>
    (∑ x : Fin 1024, Y (ix3 (i 0) (i 1) x) * hot x (Q (ix3 (i 0) k (i 2)))) + P (ix4 (i 0) (i 1) k (i 2))

/-- Point `t` works on batch `t / 8` and column block `t % 8`. -/
theorem index3 : ∀ t : Fin grid3.N,
    (win3_0.index t 0 = t.val / 8 ∧ win3_0.index t 1 = 0 ∧ win3_0.index t 2 = 0)
    ∧ (win3_1.index t 0 = t.val / 8 ∧ win3_1.index t 1 = 0 ∧ win3_1.index t 2 = t.val % 8)
    ∧ (win3_2.index t 0 = t.val / 8 ∧ win3_2.index t 1 = 0 ∧ win3_2.index t 2 = 0 ∧ win3_2.index t 3 = t.val % 8)
    ∧ (win3_3.index t 0 = t.val / 8 ∧ win3_3.index t 1 = 0 ∧ win3_3.index t 2 = t.val % 8) := by decide +kernel

variable (V : (c : Dev nD) → (b : Ref sig .tc) → Buf (Elt Ideal) ((c : Thread nD τ).loc b)) (c : Dev nD)

/-- The batch of a point. -/
abbrev bt3 (t : Fin cfg3.N) : Fin 4 := ⟨t.val / 8, by have := t.isLt; have h : cfg3.N = 32 := N_3; omega⟩
/-- The column of a point's block. -/
abbrev cl3 (t : Fin cfg3.N) (n : Fin 128) : Fin 1024 := ⟨t.val % 8 * 128 + n.val, by have := n.isLt; omega⟩

/-- A point's block of the features. -/
theorem blk3_0 (t : Fin cfg3.N) (o : Fin 2048) (x : Fin 1024) :
    (iblk3 V c 0 t : Vec Ideal S1x2048x1024 .bf16) (ix3 0 o x) = V c main_v38 (ix3 (bt3 t) o x) := by
  have h := (index3 t).1
  unfold iblk3
  rw [View.read_apply]
  show V c main_v38 _ = _
  congr 1
  funext a
  apply Fin.ext
  match a with
  | ⟨0, _⟩ => show win3_0.index t 0 * 1 + 1 * 0 = t.val / 8; rw [h.1]; omega
  | ⟨1, _⟩ => show win3_0.index t 1 * 2048 + 1 * o.val = o.val; rw [h.2.1]; omega
  | ⟨2, _⟩ => show win3_0.index t 2 * 1024 + 1 * x.val = x.val; rw [h.2.2]; omega

/-- A point's block of the indices. -/
theorem blk3_1 (t : Fin cfg3.N) (k : Fin 8) (n : Fin 128) :
    (iblk3 V c 1 t : Vec Ideal S1x8x128 .i32) (ix3 0 k n) = V c main_v40 (ix3 (bt3 t) k (cl3 t n)) := by
  have h := (index3 t).2.1
  unfold iblk3
  rw [View.read_apply]
  show V c main_v40 _ = _
  congr 1
  funext a
  apply Fin.ext
  match a with
  | ⟨0, _⟩ => show win3_1.index t 0 * 1 + 1 * 0 = t.val / 8; rw [h.1]; omega
  | ⟨1, _⟩ => show win3_1.index t 1 * 8 + 1 * k.val = k.val; rw [h.2.1]; omega
  | ⟨2, _⟩ => show win3_1.index t 2 * 128 + 1 * n.val = t.val % 8 * 128 + n.val; rw [h.2.2]; omega

/-- A point's block of the position term. -/
theorem blk3_2 (t : Fin cfg3.N) (o : Fin 2048) (k : Fin 8) (n : Fin 128) :
    (iblk3 V c 2 t : Vec Ideal S1x2048x8x128 .f32) (ix4 0 o k n) = V c main_v39 (ix4 (bt3 t) o k (cl3 t n)) := by
  have h := (index3 t).2.2.1
  unfold iblk3
  rw [View.read_apply]
  show V c main_v39 _ = _
  congr 1
  funext a
  apply Fin.ext
  match a with
  | ⟨0, _⟩ => show win3_2.index t 0 * 1 + 1 * 0 = t.val / 8; rw [h.1]; omega
  | ⟨1, _⟩ => show win3_2.index t 1 * 2048 + 1 * o.val = o.val; rw [h.2.1]; omega
  | ⟨2, _⟩ => show win3_2.index t 2 * 8 + 1 * k.val = k.val; rw [h.2.2.1]; omega
  | ⟨3, _⟩ => show win3_2.index t 3 * 128 + 1 * n.val = t.val % 8 * 128 + n.val; rw [h.2.2.2]; omega

/-- A point's block of the result array. -/
theorem blk3_3 (G : Vec Ideal S4x2048x1024 .f32) (t : Fin cfg3.N) (o : Fin 2048) (n : Fin 128) :
    (((cfg3.win 3).blk t).view.read (Elt Ideal) G : Vec Ideal S1x2048x128 .f32) (ix3 0 o n) = G (ix3 (bt3 t) o (cl3 t n)) := by
  have h := (index3 t).2.2.2
  rw [View.read_apply]
  show G _ = _
  congr 1
  funext a
  apply Fin.ext
  match a with
  | ⟨0, _⟩ => show win3_3.index t 0 * 1 + 1 * 0 = t.val / 8; rw [h.1]; omega
  | ⟨1, _⟩ => show win3_3.index t 1 * 2048 + 1 * o.val = o.val; rw [h.2.1]; omega
  | ⟨2, _⟩ => show win3_3.index t 2 * 128 + 1 * n.val = t.val % 8 * 128 + n.val; rw [h.2.2]; omega

/-- What a point writes back is its block of the region's function. -/
theorem flushed3 (t : Fin cfg3.N) :
    (dat3 V c).flushed 3 t = ((cfg3.win 3).blk t).view.read (Elt Ideal) (out3 (V c main_v38) (V c main_v40) (V c main_v39)) := by
  show (cfg3.win 3).cut (grid3.coords t) ((dat3 V c).after 3 t) = _
  rw [after3_3]
  unfold out3_3
  rw [View.canon_unit_zero hz3, View.ld_unit_zero (S := S1x8x128) hz3, View.ld_unit_zero (S := S1x2048x1024) hz3,
    View.ld_unit_zero (S := S1x2048x8x128) hz4]
  refine funext fun (j : S1x2048x128.Idx) => ?_
  obtain ⟨o, n, rfl⟩ := slab_idx j
  refine Eq.trans ?_ (blk3_3 _ t o n).symm
  show k3_pay1 (iblk3 V c 1 t) (iblk3 V c 0 t) (iblk3 V c 2 t) (ix3 0 o n) = _
  rw [k3_pay1_at]
  unfold out3
  refine congrArg _ (funext fun k => ?_)
  rw [blk3_2 V c t o k n, blk3_1 V c t k n]
  refine congrArg (· + _) (Finset.sum_congr rfl fun x _ => ?_)
  rw [blk3_0 V c t o x]
  rfl

/-- An index of the result array lies in the block of its batch and column block. -/
theorem mem3 (t : Fin cfg3.N) (i : S4x2048x1024.Idx) :
    i ∈ ((cfg3.win 3).blk t).view.set ↔ ∀ a, win3_3.index t a * win3_3.size a ≤ (i a : Nat) ∧ (i a : Nat) < win3_3.index t a * win3_3.size a + win3_3.xsize (grid3.coords t) a := by
  show i ∈ ((View.whole main_v41).slice (win3_3.rect t)).set ↔ _
  rw [View.set_slice_whole, Rect.mem_set_unit]

/-- The result array ends at the region's function. -/
theorem final3 : (dat3 V c).arrAt 3 cfg3.N = out3 (V c main_v38) (V c main_v40) (V c main_v39) :=
  (dat3 V c).arrAt_eq_of_cover 3 _ (fun t _ => flushed3 V c t) fun (i : S4x2048x1024.Idx) => by
    have h0 : (i 0 : Nat) < 4 := (i 0).isLt
    have h1 : (i 1 : Nat) < 2048 := (i 1).isLt
    have h2 : (i 2 : Nat) < 1024 := (i 2).isLt
    have hN : cfg3.N = 32 := N_3
    refine ⟨⟨(i 0 : Nat) * 8 + (i 2 : Nat) / 128, by omega⟩, flush3_3 _, ?_⟩
    have h := (index3 ⟨(i 0 : Nat) * 8 + (i 2 : Nat) / 128, by rw [N_3]; omega⟩).2.2.2
    rw [mem3]
    intro a
    match a with
    | ⟨0, _⟩ => show win3_3.index _ 0 * 1 ≤ (i 0 : Nat) ∧ (i 0 : Nat) < win3_3.index _ 0 * 1 + 1; rw [h.1]; dsimp only; omega
    | ⟨1, _⟩ => show win3_3.index _ 1 * 2048 ≤ (i 1 : Nat) ∧ (i 1 : Nat) < win3_3.index _ 1 * 2048 + 2048; rw [h.2.1]; omega
    | ⟨2, _⟩ => show win3_3.index _ 2 * 128 ≤ (i 2 : Nat) ∧ (i 2 : Nat) < win3_3.index _ 2 * 128 + 128; rw [h.2.2]; dsimp only; omega

end Cert.KernelIdeal.Val

end
-- ==== Proof.Stretch.lean ====
module

public import proofs.«01_k».proof.Proof.Gen.KernelIdeal.Frame
public import proofs.«01_k».proof.Proof.Tiles
public import Idealize.ShloMosaic.Lib.StableHlo.Run

@[expose] public section

set_option maxRecDepth 16384

noncomputable section

/-! ## The host's arithmetic between the regions -/

namespace Cert.KernelIdeal.Val

open Cert.KernelIdeal Cert.KernelIdeal.Gen Idealize.ShloMosaic Idealize.ShloMosaic.TcCoe Idealize.ShloMosaic.Pointwise
open scoped BigOperators

/-- Each channel's mean: its sum over the count. -/
def meanV (st : FVec Ideal S2x2048 .f32) : FVec Ideal S2048 .f32 :=
  Host.divf (shapeCast S2048 (extractStridedSlice S1x2048 ![0, 0] st slices_S2x2048_S1x2048_0_0) shapeCasts_S1x2048_S2048)
    (broadcastInDim S2048 ![] bcast_S_S2048 (constant S_ .f32 0x45800000#32))

/-- Each channel's scale: the gain over the root of the variance plus the small constant. -/
def scaleV (st : FVec Ideal S2x2048 .f32) (g : FVec Ideal S2048 .f32) : FVec Ideal S2048 .f32 :=
  mulf g (Host.rsqrt (addf (subf
    (Host.divf (shapeCast S2048 (extractStridedSlice S1x2048 ![1, 0] st slices_S2x2048_S1x2048_1_0) shapeCasts_S1x2048_S2048)
      (broadcastInDim S2048 ![] bcast_S_S2048 (constant S_ .f32 0x45800000#32)))
    (mulf (meanV st) (meanV st))) (broadcastInDim S2048 ![] bcast_S_S2048 (constant S_ .f32 0x3727C5AC#32))))

/-- Each channel's shift. -/
def shiftV (st : FVec Ideal S2x2048 .f32) (g e : FVec Ideal S2048 .f32) : FVec Ideal S2048 .f32 :=
  subf e (mulf (meanV st) (scaleV st g))

/-- The mean at a channel. -/
theorem meanV_at (st : FVec Ideal S2x2048 .f32) (o : Fin 2048) :
    meanV st (ix1 o) = Ideal.div (st (ix2 0 o)) (Ideal.ofBits .f32 0x45800000#32) := by
  pointwise [meanV]

/-- The scale at a channel. -/
theorem scaleV_at (st : FVec Ideal S2x2048 .f32) (g : FVec Ideal S2048 .f32) (o : Fin 2048) :
    scaleV st g (ix1 o) = g (ix1 o) * Ideal.rsqrt (Ideal.div (st (ix2 1 o)) (Ideal.ofBits .f32 0x45800000#32)
      - meanV st (ix1 o) * meanV st (ix1 o) + Ideal.ofBits .f32 0x3727C5AC#32) := by
  pointwise [scaleV]

/-- The shift at a channel. -/
theorem shiftV_at (st : FVec Ideal S2x2048 .f32) (g e : FVec Ideal S2048 .f32) (o : Fin 2048) :
    shiftV st g e (ix1 o) = e (ix1 o) - meanV st (ix1 o) * scaleV st g (ix1 o) := by
  pointwise [shiftV]

variable (V : Valuation τ sig (Elt Ideal))

/-- The first stretch leaves the first scales, as a row. -/
theorem after1_scale : StableHlo.after hostOps1 V (Proc.devRef .tc main_v17)
    = broadcastInDim S1x2048 ![1] bcast_S2048_S1x2048_1 (scaleV (V (Proc.devRef .tc main_v0_1)) (V (Proc.devRef .tc main_arg5))) := by
  after_results
  rfl

/-- The first stretch leaves the first shifts, as a row. -/
theorem after1_shift : StableHlo.after hostOps1 V (Proc.devRef .tc main_v18)
    = broadcastInDim S1x2048 ![1] bcast_S2048_S1x2048_1
        (shiftV (V (Proc.devRef .tc main_v0_1)) (V (Proc.devRef .tc main_arg5)) (V (Proc.devRef .tc main_arg6))) := by
  after_results
  rfl

/-- The second stretch leaves the second scales, as a column. -/
theorem after2_scale : StableHlo.after hostOps2 V (Proc.devRef .tc main_v36)
    = broadcastInDim S2048x1 ![0] bcast_S2048_S2048x1_0 (scaleV (V (Proc.devRef .tc main_v19_1)) (V (Proc.devRef .tc main_arg8))) := by
  after_results
  rfl

/-- The second stretch leaves the second shifts, as a column. -/
theorem after2_shift : StableHlo.after hostOps2 V (Proc.devRef .tc main_v37)
    = broadcastInDim S2048x1 ![0] bcast_S2048_S2048x1_0
        (shiftV (V (Proc.devRef .tc main_v19_1)) (V (Proc.devRef .tc main_arg8)) (V (Proc.devRef .tc main_arg9))) := by
  after_results
  rfl

/-- The third stretch leaves the position term with its last two axes exchanged. -/
theorem after3_pos : StableHlo.after hostOps3 V (Proc.devRef .tc main_v39)
    = transpose S4x2048x8x1024 [0, 1, 3, 2] (V (Proc.devRef .tc main_arg2)) transposes_S4x2048x1024x8_S4x2048x8x1024_0_1_3_2 := by
  after_results

/-- The third stretch leaves the indices with their last two axes exchanged. -/
theorem after3_idx : StableHlo.after hostOps3 V (Proc.devRef .tc main_v40)
    = transpose S4x8x1024 [0, 2, 1] (V (Proc.devRef .tc main_arg3)) transposes_S4x1024x8_S4x8x1024_0_2_1 := by
  after_results

/-- A row of channel values at a channel. -/
theorem row_at (v : FVec Ideal S2048 .f32) (o : Fin 2048) :
    broadcastInDim S1x2048 ![1] bcast_S2048_S1x2048_1 v (ix2 0 o) = v (ix1 o) := by
  pointwise

/-- A column of channel values at a channel. -/
theorem col_at (v : FVec Ideal S2048 .f32) (o : Fin 2048) :
    broadcastInDim S2048x1 ![0] bcast_S2048_S2048x1_0 v (ix2 o 0) = v (ix1 o) := by
  pointwise

/-- The exchanged position term at an index. -/
theorem pos_at (v : FVec Ideal S4x2048x1024x8 .f32) (b : Fin 4) (o : Fin 2048) (k : Fin 8) (n : Fin 1024) :
    transpose S4x2048x8x1024 [0, 1, 3, 2] v transposes_S4x2048x1024x8_S4x2048x8x1024_0_1_3_2 (ix4 b o k n) = v (ix4 b o n k) := by
  pointwise

/-- The exchanged indices at an index. -/
theorem idx_at (v : IVec S4x1024x8 32) (b : Fin 4) (k : Fin 8) (n : Fin 1024) :
    transpose S4x8x1024 [0, 2, 1] v transposes_S4x1024x8_S4x8x1024_0_2_1 (ix3 b k n) = v (ix3 b n k) := by
  pointwise

end Cert.KernelIdeal.Val

end
-- ==== Proof.KernelValue.lean ====
module

public import proofs.«01_k».proof.Proof.Region0
public import proofs.«01_k».proof.Proof.Region1
public import proofs.«01_k».proof.Proof.Region2
public import proofs.«01_k».proof.Proof.Region3
public import proofs.«01_k».proof.Proof.Stretch

@[expose] public section

set_option maxRecDepth 16384

noncomputable section

/-! ## The kernel's result as one function of its arguments -/

namespace Cert.KernelIdeal.Val

open Cert.KernelIdeal Cert.KernelIdeal.Gen Idealize.ShloMosaic Idealize.ShloMosaic.TcCoe Idealize.ShloMosaic.Pointwise
open scoped BigOperators

variable (m : (ℓ : Loc nD τ sig) → Buf (Elt Ideal) ℓ) (ρ : Dev nD → PrngReg) (c : Dev nD)

/-- The position term the kernel is given. -/
abbrev arg2 : FVec Ideal S4x2048x1024x8 .f32 := m ((c : Thread nD τ).loc main_arg2)
/-- The indices the kernel is given. -/
abbrev arg3 : IVec S4x1024x8 32 := m ((c : Thread nD τ).loc main_arg3)
/-- The second weights the kernel is given. -/
abbrev arg7 : FVec Ideal S2048x2048 .f32 := m ((c : Thread nD τ).loc main_arg7)

/-- The first product, of the arguments. -/
def p1 : Fin 4 → Fin 1024 → Fin 2048 → EReal := y0 (m ((c : Thread nD τ).loc main_arg1)) (m ((c : Thread nD τ).loc main_arg4))

/-- The first scales, of the arguments. -/
def s1 : FVec Ideal S2048 .f32 := scaleV (statsUpTo (p1 m c) 15) (m ((c : Thread nD τ).loc main_arg5))
/-- The first shifts, of the arguments. -/
def b1 : FVec Ideal S2048 .f32 :=
  shiftV (statsUpTo (p1 m c) 15) (m ((c : Thread nD τ).loc main_arg5)) (m ((c : Thread nD τ).loc main_arg6))

/-- The second product, of the arguments. -/
def p2 (b : Fin 4) (n : Fin 1024) (o : Fin 2048) : EReal :=
  ∑ k : Fin 2048, arg7 m c (ix2 o k)
    * max (p1 m c b n k * s1 m c (ix1 k) + b1 m c (ix1 k)) 0

/-- The second scales, of the arguments. -/
def s2 : FVec Ideal S2048 .f32 := scaleV (statsUpTo (p2 m c) 15) (m ((c : Thread nD τ).loc main_arg8))
/-- The second shifts, of the arguments. -/
def b2 : FVec Ideal S2048 .f32 :=
  shiftV (statsUpTo (p2 m c) 15) (m ((c : Thread nD τ).loc main_arg8)) (m ((c : Thread nD τ).loc main_arg9))

/-- The features that are gathered, of the arguments. -/
def feat (b : Fin 4) (x : Fin 1024) (o : Fin 2048) : EReal := max (p2 m c b x o * s2 m c (ix1 o) + b2 m c (ix1 o)) 0

/-- After the first region: the first product. -/
theorem at1_prod : W1 m ρ c (Proc.devRef .tc main_v0_0) = out0 (m ((c : Thread nD τ).loc main_arg1)) (m ((c : Thread nD τ).loc main_arg4)) :=
  (W1_arr m ρ c 2).trans (final0_2 (V0 m ρ) c)

/-- After the first region: its statistics. -/
theorem at1_stats : W1 m ρ c (Proc.devRef .tc main_v0_1) = statsUpTo (p1 m c) 15 :=
  (W1_arr m ρ c 3).trans (final0_3 (V0 m ρ) c)

/-- Before the second region: the first product. -/
theorem at2_prod : W2 m ρ c (Proc.devRef .tc main_v0_0) = out0 (m ((c : Thread nD τ).loc main_arg1)) (m ((c : Thread nD τ).loc main_arg4)) :=
  (W2_of m ρ c main_v0_0 (by decide)).trans (at1_prod m ρ c)

/-- Before the second region: the first scales. -/
theorem at2_scale : W2 m ρ c (Proc.devRef .tc main_v17) = broadcastInDim S1x2048 ![1] bcast_S2048_S1x2048_1 (s1 m c) := by
  show StableHlo.after hostOps1 (W1 m ρ c) _ = _
  rw [after1_scale, at1_stats, W1_args m ρ c main_arg5 (by decide)]
  rfl

/-- Before the second region: the first shifts. -/
theorem at2_shift : W2 m ρ c (Proc.devRef .tc main_v18) = broadcastInDim S1x2048 ![1] bcast_S2048_S1x2048_1 (b1 m c) := by
  show StableHlo.after hostOps1 (W1 m ρ c) _ = _
  rw [after1_shift, at1_stats, W1_args m ρ c main_arg5 (by decide), W1_args m ρ c main_arg6 (by decide)]
  rfl

/-- The second region computes the second product of the arguments. -/
theorem res1_eq : res1 (V2 m ρ) c = p2 m c := by
  funext b n o
  unfold res1 y1 p2
  refine Finset.sum_congr rfl fun k _ => ?_
  rw [show V2 m ρ c main_arg7 = m ((c : Thread nD τ).loc main_arg7) from W2_args m ρ c main_arg7 (by decide),
    show V2 m ρ c main_v0_0 = _ from at2_prod m ρ c, show V2 m ρ c main_v17 = _ from at2_scale m ρ c,
    show V2 m ρ c main_v18 = _ from at2_shift m ρ c, row_at, row_at]
  rfl

/-- After the second region: the second product. -/
theorem at3_prod (b : Fin 4) (o : Fin 2048) (n : Fin 1024) :
    (W3 m ρ c (Proc.devRef .tc main_v19_0) : Vec Ideal S4x2048x1024 .bf16) (ix3 b o n) = p2 m c b n o := by
  rw [show W3 m ρ c (Proc.devRef .tc main_v19_0) = _ from (W3_arr m ρ c 4).trans (final1_4 (V2 m ρ) c)]
  exact congrFun (congrFun (congrFun (res1_eq m ρ c) b) n) o

/-- After the second region: its statistics. -/
theorem at3_stats : W3 m ρ c (Proc.devRef .tc main_v19_1) = statsUpTo (p2 m c) 15 :=
  ((W3_arr m ρ c 5).trans (final1_5 (V2 m ρ) c)).trans (congrArg (fun f => statsUpTo f 15) (res1_eq m ρ c))

/-- Before the third region: the second scales. -/
theorem at4_scale : W4 m ρ c (Proc.devRef .tc main_v36) = broadcastInDim S2048x1 ![0] bcast_S2048_S2048x1_0 (s2 m c) := by
  show StableHlo.after hostOps2 (W3 m ρ c) _ = _
  rw [after2_scale, at3_stats, W3_args m ρ c main_arg8 (by decide)]
  rfl

/-- Before the third region: the second shifts. -/
theorem at4_shift : W4 m ρ c (Proc.devRef .tc main_v37) = broadcastInDim S2048x1 ![0] bcast_S2048_S2048x1_0 (b2 m c) := by
  show StableHlo.after hostOps2 (W3 m ρ c) _ = _
  rw [after2_shift, at3_stats, W3_args m ρ c main_arg8 (by decide), W3_args m ρ c main_arg9 (by decide)]
  rfl

/-- Before the last region: the features. -/
theorem at6_feat (b : Fin 4) (o : Fin 2048) (x : Fin 1024) :
    (V6 m ρ c main_v38 : Vec Ideal S4x2048x1024 .bf16) (ix3 b o x) = feat m c b x o := by
  rw [show V6 m ρ c main_v38 = _ from (W6_of m ρ c main_v38 (by decide)).trans ((W5_arr m ρ c 3).trans (final2 (V4 m ρ) c))]
  unfold out2 feat
  rw [show V4 m ρ c main_v36 = _ from at4_scale m ρ c, show V4 m ρ c main_v37 = _ from at4_shift m ρ c,
    show V4 m ρ c main_v19_0 = _ from W4_of m ρ c main_v19_0 (by decide), at3_prod]
  exact congrArg₂ (fun u v : EReal => max (p2 m c b x o * u + v) 0) (col_at _ o) (col_at _ o)

/-- Before the last region: the position term. -/
theorem at6_pos (b : Fin 4) (o : Fin 2048) (k : Fin 8) (n : Fin 1024) :
    (V6 m ρ c main_v39 : Vec Ideal S4x2048x8x1024 .f32) (ix4 b o k n)
      = arg2 m c (ix4 b o n k) := by
  rw [show V6 m ρ c main_v39 = _ from after3_pos (W5 m ρ c), W5_args m ρ c main_arg2 (by decide)]
  exact pos_at _ b o k n

/-- Before the last region: the indices. -/
theorem at6_idx (b : Fin 4) (k : Fin 8) (n : Fin 1024) :
    (V6 m ρ c main_v40 : Vec Ideal S4x8x1024 .i32) (ix3 b k n)
      = arg3 m c (ix3 b n k) := by
  rw [show V6 m ρ c main_v40 = _ from after3_idx (W5 m ρ c), W5_args m ρ c main_arg3 (by decide)]
  exact idx_at _ b k n

/-- The kernel's result, entry by entry. -/
theorem result_at (b : Fin 4) (o : Fin 2048) (n : Fin 1024) :
    ((dat3 (V6 m ρ) c).arrAt 3 cfg3.N : Vec Ideal S4x2048x1024 .f32) (ix3 b o n) = Finset.univ.sup fun k : Fin 8 =>
      (∑ x : Fin 1024, feat m c b x o * hot x (arg3 m c (ix3 b n k)))
        + arg2 m c (ix4 b o n k) := by
  rw [final3]
  unfold out3
  refine congrArg _ (funext fun k => ?_)
  refine congrArg₂ (· + ·) (Finset.sum_congr rfl fun x _ => ?_) (at6_pos m ρ c b o k n)
  exact congrArg₂ (· * ·) (at6_feat m ρ c b o x) (congrArg (hot x) (at6_idx m ρ c b k n))

end Cert.KernelIdeal.Val

end
-- ==== Proof.Finite.lean ====
module

public import proofs.«01_k».proof.Defs
public import proofs.«01_k».proof.Proof.KernelValue

@[expose] public section

set_option maxRecDepth 16384

noncomputable section

/-! ## What the precondition says of the arguments -/

namespace Cert.Finite

open Cert.KernelIdeal Cert.KernelIdeal.Val Idealize.ShloMosaic Idealize.ShloMosaic.TcCoe

/-- The shapes the precondition's operations need. -/
theorem preFacts : Cert.Pre_finite_and_in_range.Facts where
  bcast_S_S4x1024x1024 := by decide
  bcast_S_S4x1024x8 := by decide
  bcast_S_S2048x1024 := by decide
  bcast_S_S2048 := by decide
  bcast_S_S2048x2048 := by decide

/-- An entry whose magnitude is below infinity is a number. -/
theorem number (x : Ideal .f32)
    (h : FloatOps.cmpf .olt (FloatOps.hostAbsf x) (FloatOps.ofBits (F := Ideal) .f32 0x7F800000#32) = 1#1) :
    x = (EReal.toReal x : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine (EReal.coe_toReal ?_ ?_).symm
  · rintro rfl
    simp [Ideal.cmp] at h'
  · rintro rfl
    simp [Ideal.cmp] at h'

/-- An index that is at least 0 and below 1024, read signed, names one of 1024 rows. -/
theorem in_range (w : BitVec 32) (h : IntOp.cmpi .sge w 0#32 &&& IntOp.cmpi .slt w 1024#32 = 1#1) : w.toNat < 1024 := by
  have hb : ((0#32).sle w && w.slt 1024#32) = true := by
    by_contra hc
    have h' : BitVec.ofBool ((0#32).sle w && w.slt 1024#32) = 1#1 := by simpa [IntOp.cmpi] using h
    rw [Bool.eq_false_iff.2 hc] at h'
    exact absurd h' (by decide)
  rw [Bool.and_eq_true] at hb
  obtain ⟨h0, h1⟩ := hb
  rw [BitVec.sle_eq_decide, BitVec.toInt_eq_toNat_cond w] at h0
  rw [BitVec.slt_eq_decide, BitVec.toInt_eq_toNat_cond w] at h1
  simp at h0 h1
  have := w.isLt
  omega

variable (m : (ℓ : Loc nD τ sig) → Buf (Elt Ideal) ℓ) (c : Dev nD)

/-- The features the kernel is given. -/
abbrev arg1 : FVec Ideal S4x1024x1024 .f32 := m ((c : Thread nD τ).loc main_arg1)
/-- The first weights the kernel is given. -/
abbrev arg4 : FVec Ideal S2048x1024 .f32 := m ((c : Thread nD τ).loc main_arg4)
/-- The first gains the kernel is given. -/
abbrev arg5 : FVec Ideal S2048 .f32 := m ((c : Thread nD τ).loc main_arg5)
/-- The first offsets the kernel is given. -/
abbrev arg6 : FVec Ideal S2048 .f32 := m ((c : Thread nD τ).loc main_arg6)
/-- The second gains the kernel is given. -/
abbrev arg8 : FVec Ideal S2048 .f32 := m ((c : Thread nD τ).loc main_arg8)
/-- The second offsets the kernel is given. -/
abbrev arg9 : FVec Ideal S2048 .f32 := m ((c : Thread nD τ).loc main_arg9)

/-- The arguments a device is given are numbers where the claim needs numbers, and its indices are in range. -/
structure Good : Prop where
  features : ∀ i, arg1 m c i = (EReal.toReal (arg1 m c i) : EReal)
  indices : ∀ i, (arg3 m c i).toNat < 1024
  weights1 : ∀ i, arg4 m c i = (EReal.toReal (arg4 m c i) : EReal)
  gains1 : ∀ i, arg5 m c i = (EReal.toReal (arg5 m c i) : EReal)
  offsets1 : ∀ i, arg6 m c i = (EReal.toReal (arg6 m c i) : EReal)
  weights2 : ∀ i, arg7 m c i = (EReal.toReal (arg7 m c i) : EReal)
  gains2 : ∀ i, arg8 m c i = (EReal.toReal (arg8 m c i) : EReal)

/-- The precondition gives exactly that. -/
theorem good (h : letI := preFacts; Cert.Pre_KernelIdeal_finite_and_in_range m) : Good m c := by
  letI := preFacts
  obtain ⟨h1, h3, h4, h5, h6, h7, h8⟩ := h c
  exact ⟨fun i => number _ (congrFun h1 i), fun i => in_range _ (congrFun h3 i), fun i => number _ (congrFun h4 i),
    fun i => number _ (congrFun h5 i), fun i => number _ (congrFun h6 i), fun i => number _ (congrFun h7 i),
    fun i => number _ (congrFun h8 i)⟩

end Cert.Finite

end
-- ==== Proof.Algebra.lean ====
module

public import Idealize.ShloMosaic.PureOps.Ideal
public import Mathlib.Tactic.LinearCombination
public import Mathlib.Tactic.FieldSimp
public import Mathlib.Tactic.Positivity

@[expose] public section

noncomputable section

/-! ## Batch normalisation two ways over the extended reals -/

namespace Cert.Norm

open Idealize.ShloMosaic
open scoped BigOperators

/-- The number of entries a channel's statistics run over. -/
theorem count_eq : (Ideal.ofBits .f32 0x45800000#32 : EReal) = ((4096 : ℝ) : EReal) := by
  simp [Ideal.ofBits, Ideal.ieee, -EReal.coe_mul]; norm_num

/-- The small constant added to a variance, as a number. -/
def small : ℝ := 10995116 / 2 ^ 40

/-- The small constant is positive. -/
theorem small_pos : 0 < small := by unfold small; norm_num

/-- The word of the small constant denotes it. -/
theorem small_eq : (Ideal.ofBits .f32 0x3727C5AC#32 : EReal) = (small : EReal) := by
  simp [Ideal.ofBits, Ideal.ieee, -EReal.coe_mul, small]; norm_num

/-- A finite sum of numbers, cast. -/
theorem cast_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

variable (y : Fin 4 → Fin 1024 → ℝ)

/-- The mean of the entries. -/
def mean : ℝ := (∑ b, ∑ n, y b n) * (1 / 4096)

/-- The mean squared distance from the mean. -/
def var : ℝ := (∑ b, ∑ n, (y b n - mean y) * (y b n - mean y)) * (1 / 4096)

/-- The variance is the mean square less the squared mean. -/
theorem var_eq : (∑ b, ∑ n, y b n * y b n) * (1 / 4096) - mean y * mean y = var y := by
  have e : (∑ b : Fin 4, ∑ n : Fin 1024, (y b n - mean y) * (y b n - mean y))
      = (∑ b, ∑ n, y b n * y b n) - 2 * mean y * (∑ b, ∑ n, y b n) + 4096 * (mean y * mean y) := by
    have h : ∀ b n, (y b n - mean y) * (y b n - mean y) = y b n * y b n - 2 * mean y * y b n + mean y * mean y := fun b n => by ring
    simp only [h, Finset.sum_add_distrib, Finset.sum_sub_distrib, ← Finset.mul_sum, Finset.sum_const, Finset.card_univ, Fintype.card_fin, nsmul_eq_mul]
    push_cast
    ring
  have hm : (∑ b, ∑ n, y b n) = 4096 * mean y := by unfold mean; ring
  unfold var
  rw [e, hm]
  ring

/-- The variance is not negative. -/
theorem var_nonneg : 0 ≤ var y :=
  mul_nonneg (Finset.sum_nonneg fun b _ => Finset.sum_nonneg fun n _ => mul_self_nonneg _) (by norm_num)

/-- The normalised entry, with the gain and without the offset. -/
def normed (g : ℝ) (b : Fin 4) (n : Fin 1024) : ℝ := (y b n - mean y) * (1 / Real.sqrt (var y + small)) * g

/-- The mean, over the extended reals. -/
theorem mean_cast : Ideal.div (∑ b, ∑ n, (y b n : EReal)) (Ideal.ofBits .f32 0x45800000#32) = (mean y : EReal) := by
  rw [count_eq, Ideal.div_coe (by norm_num)]
  simp only [cast_sum]
  rw [← EReal.coe_mul]
  rfl

/-- The mean square, over the extended reals. -/
theorem square_cast : Ideal.div (∑ b, ∑ n, (y b n : EReal) * (y b n : EReal)) (Ideal.ofBits .f32 0x45800000#32)
    = (((∑ b, ∑ n, y b n * y b n) * (1 / 4096) : ℝ) : EReal) := by
  rw [count_eq, Ideal.div_coe (by norm_num)]
  simp only [← EReal.coe_mul, cast_sum]

/-- The mean squared distance, over the extended reals. -/
theorem var_cast : Ideal.div (∑ b, ∑ n, ((y b n : EReal) - (mean y : EReal)) * ((y b n : EReal) - (mean y : EReal)))
    (Ideal.ofBits .f32 0x45800000#32) = (var y : EReal) := by
  rw [count_eq, Ideal.div_coe (by norm_num)]
  simp only [← EReal.coe_sub, ← EReal.coe_mul, cast_sum]
  rfl

/-- The kernel's form: scale, then shift. -/
theorem kernel_form (g : ℝ) (e : EReal) (b : Fin 4) (n : Fin 1024) :
    (y b n : EReal) * ((g : EReal) * Ideal.rsqrt ((((∑ b, ∑ n, y b n * y b n) * (1 / 4096) : ℝ) : EReal)
      - (mean y : EReal) * (mean y : EReal) + (small : EReal)))
      + (e - (mean y : EReal) * ((g : EReal) * Ideal.rsqrt ((((∑ b, ∑ n, y b n * y b n) * (1 / 4096) : ℝ) : EReal)
      - (mean y : EReal) * (mean y : EReal) + (small : EReal)))) = (normed y g b n : EReal) + e := by
  rw [← EReal.coe_mul, ← EReal.coe_sub, ← EReal.coe_add, var_eq]
  have hp : 0 < var y + small := add_pos_of_nonneg_of_pos (var_nonneg y) small_pos
  rw [Ideal.rsqrt_coe, if_neg (not_lt.mpr hp.le), if_neg hp.ne']
  rw [← EReal.coe_mul, ← EReal.coe_mul, ← EReal.coe_mul, sub_eq_add_neg, ← EReal.coe_neg, add_comm e, ← add_assoc, ← EReal.coe_add]
  congr 2
  unfold normed
  rw [one_div]
  ring

/-- The reference's form: subtract the mean, divide by the root, multiply by the gain, add the offset. -/
theorem reference_form (g : ℝ) (e : EReal) (b : Fin 4) (n : Fin 1024) :
    Ideal.div ((y b n : EReal) - (mean y : EReal)) (Ideal.sqrt ((var y : EReal) + (small : EReal))) * (g : EReal) + e
      = (normed y g b n : EReal) + e := by
  have hp : 0 < var y + small := add_pos_of_nonneg_of_pos (var_nonneg y) small_pos
  rw [← EReal.coe_add, Ideal.sqrt_coe, if_neg (not_lt.mpr hp.le), Ideal.div_coe (Real.sqrt_pos.mpr hp).ne', ← EReal.coe_sub,
    ← EReal.coe_mul, ← EReal.coe_mul]
  rfl

end Cert.Norm

end
-- ==== Proof.RefNorm.lean ====
module

public import proofs.«01_k».proof.Proof.Gen.ReferenceIdeal.Read
public import proofs.«01_k».proof.Proof.Algebra
public import Idealize.ShloMosaic.Lib.Pointwise

@[expose] public section

set_option maxRecDepth 16384

noncomputable section

/-! ## The reference's batch normalisation, read at an index -/

namespace Cert.ReferenceIdeal.Val

open Cert.ReferenceIdeal Cert.ReferenceIdeal.Gen Cert.ReferenceIdeal.Read Idealize.ShloMosaic Idealize.ShloMosaic.Pointwise
open scoped BigOperators

/-- Dropping the first and last coordinates of a triple leaves `o` exactly when the middle one is `o`. -/
theorem drop_mid (h : S4x2048x1024.ReducesTo [0, 2] S2048) (o : Fin 2048) (i : S4x2048x1024.Idx) :
    h.drop i = ix1 o ↔ ∃ k : Fin 4 × Fin 1024, ix3 k.1 o k.2 = i := by
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
  · rintro ⟨k, rfl⟩
    funext b
    match b with
    | ⟨0, _⟩ => rfl

/-- The host's sum over the first and last axes. -/
theorem sum_mid (v : FVec Ideal S4x2048x1024 .f32) (o : Fin 2048) :
    Host.reduceAdd v (constant S_ .f32 0x00000000#32) reducesTo_S4x2048x1024_S2048_d0_2 h_S_ (ix1 o)
      = ∑ b : Fin 4, ∑ n : Fin 1024, v (ix3 b o n) := by
  have e : Host.reduceAdd v (constant S_ .f32 0x00000000#32) reducesTo_S4x2048x1024_S2048_d0_2 h_S_ (ix1 o)
      = (Ideal.ofBits .f32 0x00000000#32 : EReal)
        + ∑ i ∈ Finset.univ.filter (fun i => reducesTo_S4x2048x1024_S2048_d0_2.drop i = ix1 o), v i := rfl
  rw [e, Finset.sum_filter_eq_sum_of_fiber _ (fun k : Fin 4 × Fin 1024 => ix3 k.1 o k.2)
    (fun _ _ e => Prod.ext (congrFun e 0) (congrFun e 2)) (drop_mid _ o) v, Fintype.sum_prod_type]
  rw [show (Ideal.ofBits .f32 0x00000000#32 : EReal) = 0 by simp [Ideal.ofBits, Ideal.ieee, -EReal.coe_mul], zero_add]

/-- One value per channel, spread over the whole array. -/
abbrev spread (v : FVec Ideal S1x2048x1 .f32) : FVec Ideal S4x2048x1024 .f32 :=
  broadcastInDim S4x2048x1024 ![0, 1, 2] bcast_S1x2048x1_S4x2048x1024_0_1_2 v

/-- One constant, at every channel. -/
abbrev fill (w : BitVec 32) : FVec Ideal S1x2048x1 .f32 := broadcastInDim S1x2048x1 ![] bcast_S_S1x2048x1 (constant S_ .f32 w)

/-- Each channel's sum. -/
def sumR (y : FVec Ideal S4x2048x1024 .f32) : FVec Ideal S1x2048x1 .f32 :=
  broadcastInDim S1x2048x1 ![1] bcast_S2048_S1x2048x1_1
    (Host.reduceAdd y (constant S_ .f32 0x00000000#32) reducesTo_S4x2048x1024_S2048_d0_2 h_S_)

/-- Each channel's mean. -/
def meanR (y : FVec Ideal S4x2048x1024 .f32) : FVec Ideal S1x2048x1 .f32 := Host.divf (sumR y) (fill 0x45800000#32)

/-- The squared distance from the mean. -/
def sqR (y : FVec Ideal S4x2048x1024 .f32) : FVec Ideal S4x2048x1024 .f32 :=
  mulf (subf y (spread (meanR y))) (subf y (spread (meanR y)))

/-- The count less the degrees of freedom taken off. -/
def cntR : FVec Ideal S_ .f32 := subf (constant S_ .f32 0x45800000#32) (sitofp .f32 (constantI S_ 32 0#32))

/-- Each channel's variance. -/
def varR (y : FVec Ideal S4x2048x1024 .f32) : FVec Ideal S1x2048x1 .f32 :=
  select (broadcastInDim S1x2048x1 ![] bcast_S_S1x2048x1 (cmpf .ogt cntR (constant S_ .f32 0x00000000#32)))
    (Host.divf (sumR (sqR y)) (broadcastInDim S1x2048x1 ![] bcast_S_S1x2048x1 cntR)) (fill 0x7FC00000#32)

/-- Batch normalisation, then the larger of that and zero. -/
def bnR (y : FVec Ideal S4x2048x1024 .f32) (g e : FVec Ideal S2048 .f32) : FVec Ideal S4x2048x1024 .f32 :=
  maximumf (addf (mulf (Host.divf (subf y (spread (meanR y))) (spread (Host.sqrt (addf (varR y) (fill 0x3727C5AC#32)))))
    (spread (broadcastInDim S1x2048x1 ![1] bcast_S2048_S1x2048x1_1 g)))
    (spread (broadcastInDim S1x2048x1 ![1] bcast_S2048_S1x2048x1_1 e)))
    (broadcastInDim S4x2048x1024 ![] bcast_S_S4x2048x1024 (constant S_ .f32 0x00000000#32))

/-- The sum at a channel. -/
theorem sumR_at (y : FVec Ideal S4x2048x1024 .f32) (o : Fin 2048) :
    sumR y (ix3 0 o 0) = ∑ b : Fin 4, ∑ n : Fin 1024, y (ix3 b o n) := by
  refine Eq.trans ?_ (sum_mid y o)
  unfold sumR
  generalize Host.reduceAdd y (constant S_ .f32 0x00000000#32) reducesTo_S4x2048x1024_S2048_d0_2 h_S_ = v
  pointwise

/-- The mean at a channel. -/
theorem meanR_at (y : FVec Ideal S4x2048x1024 .f32) (o : Fin 2048) :
    meanR y (ix3 0 o 0) = Ideal.div (sumR y (ix3 0 o 0)) (Ideal.ofBits .f32 0x45800000#32) := by
  pointwise [meanR]

/-- The squared distance from the mean at an index. -/
theorem sqR_at (y : FVec Ideal S4x2048x1024 .f32) (b : Fin 4) (o : Fin 2048) (n : Fin 1024) :
    sqR y (ix3 b o n) = (y (ix3 b o n) - meanR y (ix3 0 o 0)) * (y (ix3 b o n) - meanR y (ix3 0 o 0)) := by
  pointwise [sqR]

/-- Batch normalisation at an index. -/
theorem bnR_at (y : FVec Ideal S4x2048x1024 .f32) (g e : FVec Ideal S2048 .f32) (b : Fin 4) (o : Fin 2048) (n : Fin 1024) :
    bnR y g e (ix3 b o n) = max (Ideal.div (y (ix3 b o n) - meanR y (ix3 0 o 0))
      (Ideal.sqrt (varR y (ix3 0 o 0) + Ideal.ofBits .f32 0x3727C5AC#32)) * g (ix1 o) + e (ix1 o)) 0 := by
  pointwise [bnR]

/-- The variance at a channel. -/
theorem varR_at (y : FVec Ideal S4x2048x1024 .f32) (o : Fin 2048) :
    varR y (ix3 0 o 0) = Ideal.div (sumR (sqR y) (ix3 0 o 0)) (Ideal.ofBits .f32 0x45800000#32) := by
  have hz : (FloatOps.sitofp (F := Ideal) .f32 (0#32) : EReal) = 0 := by
    show (((0#32 : BitVec 32).toInt : ℝ) : EReal) = 0
    simp
  pointwise [varR, cntR]
  rw [hz, sub_zero, if_pos]
  rw [Cert.Norm.count_eq]
  exact_mod_cast (by norm_num : (0 : ℝ) < 4096)

end Cert.ReferenceIdeal.Val

end
-- ==== Proof.RefValue.lean ====
module

public import proofs.«01_k».proof.Proof.RefNorm

@[expose] public section

set_option maxRecDepth 16384

noncomputable section

/-! ## The reference's result, read at an index -/

namespace Cert.ReferenceIdeal.Val

open Cert.ReferenceIdeal Cert.ReferenceIdeal.Gen Cert.ReferenceIdeal.Read Idealize.ShloMosaic Idealize.ShloMosaic.Pointwise
open scoped BigOperators

/-- The numbers of the one gather there is. -/
abbrev gd : GatherDims S4x1024x2048 S4x1024x8x1 S4x1024x8x2048 := gather_S4x1024x2048_S4x1024x8x1_S4x1024x8x2048_3_1_0_0_1_3_112048

/-- The first axis is the batch, the others are not. -/
theorem gd_batch : (0 : Fin S4x1024x2048.rank) ∈ gd.operandBatchingDims ∧ (1 : Fin S4x1024x2048.rank) ∉ gd.operandBatchingDims
    ∧ (2 : Fin S4x1024x2048.rank) ∉ gd.operandBatchingDims := by
  show (0 : Fin 3) ∈ [0] ∧ (1 : Fin 3) ∉ [0] ∧ (2 : Fin 3) ∉ [0]
  decide

/-- The last axis is kept, the others are not. -/
theorem gd_kept : (0 : Fin S4x1024x2048.rank) ∉ gd.sKept ∧ (1 : Fin S4x1024x2048.rank) ∉ gd.sKept
    ∧ (2 : Fin S4x1024x2048.rank) ∈ gd.sKept := by
  simp only [gd.mem_sKept]
  show ¬((0 : Fin 3) ∉ [1] ∧ (0 : Fin 3) ∉ [0]) ∧ ¬((1 : Fin 3) ∉ [1] ∧ (1 : Fin 3) ∉ [0]) ∧ ((2 : Fin 3) ∉ [1] ∧ (2 : Fin 3) ∉ [0])
  decide

/-- The middle axis is the one an index names. -/
theorem gd_named : (1 : Fin S4x1024x2048.rank) ∈ gd.startIndexMap ∧ (2 : Fin S4x1024x2048.rank) ∉ gd.startIndexMap := by
  show (1 : Fin 3) ∈ [1] ∧ (2 : Fin 3) ∉ [1]
  decide

/-- The gather reads, in the result's batch, the row its index names (clamped) at the result's channel. -/
theorem gather_at (x : FVec Ideal S4x1024x2048 .f32) (idx : IVec S4x1024x8x1 32) (b : Fin 4) (n : Fin 1024) (k : Fin 8) (o : Fin 2048) :
    Host.gather gd x idx (ix4 b n k o) = x (ix3 b ⟨min (idx (ix4 b n k 0)).toInt.toNat 1023, by omega⟩ o) := by
  unfold Host.gather
  congr 1
  funext a
  apply Fin.ext
  match a with
  | ⟨0, _⟩ =>
    show gd.start (ix4 b n k o) idx 0 + gd.batchCoord (ix4 b n k o) 0 + gd.offCoord (ix4 b n k o) 0 = b.val
    rw [gd.start_batching _ _ 0 gd_batch.1, gd.offCoord_eq_zero _ 0 gd_kept.1, zero_add, add_zero]
    unfold GatherDims.batchCoord
    rw [dif_pos gd_batch.1]
    rfl
  | ⟨1, _⟩ =>
    show gd.start (ix4 b n k o) idx 1 + gd.batchCoord (ix4 b n k o) 1 + gd.offCoord (ix4 b n k o) 1 = min (idx (ix4 b n k 0)).toInt.toNat 1023
    rw [gd.batchCoord_eq_zero _ 1 gd_batch.2.1, gd.offCoord_eq_zero _ 1 gd_kept.2.1, add_zero, add_zero]
    unfold GatherDims.start
    rw [dif_pos gd_named.1]
    have e : gd.siIdx (ix4 b n k o) ⟨gd.startIndexMap.idxOf 1, List.idxOf_lt_length_iff.2 gd_named.1⟩ = ix4 b n k 0 := by
      funext d
      apply Fin.ext
      match d with
      | ⟨0, _⟩ => rfl
      | ⟨1, _⟩ => rfl
      | ⟨2, _⟩ => rfl
      | ⟨3, _⟩ => rfl
    rw [e]
    rfl
  | ⟨2, _⟩ =>
    show gd.start (ix4 b n k o) idx 2 + gd.batchCoord (ix4 b n k o) 2 + gd.offCoord (ix4 b n k o) 2 = o.val
    rw [gd.batchCoord_eq_zero _ 2 gd_batch.2.2]
    unfold GatherDims.start GatherDims.offCoord
    rw [dif_neg gd_named.2, dif_pos gd_kept.2.2, zero_add, zero_add]
    rfl

variable (x1 : FVec Ideal S4x1024x1024 .f32) (x2 : FVec Ideal S4x2048x1024x8 .f32) (x3 : IVec S4x1024x8 32)
  (x4 : FVec Ideal S2048x1024 .f32) (x5 x6 : FVec Ideal S2048 .f32) (x7 : FVec Ideal S2048x2048 .f32) (x8 x9 : FVec Ideal S2048 .f32)

/-- The first product. -/
theorem prod1_at (b : Fin 4) (o : Fin 2048) (n : Fin 1024) :
    val_main_v1 (F := Ideal) x1 x4 (ix3 b o n) = ∑ k : Fin 1024, x1 (ix3 b k n) * x4 (ix2 o k) := by
  pointwise [val_main_v1, val_main_v0]

/-- The first layer is batch normalisation of the first product. -/
theorem layer1 : val_main_v20 (F := Ideal) x1 x4 x5 x6 = bnR (val_main_v1 (F := Ideal) x1 x4) x5 x6 := rfl

/-- The second product. -/
theorem prod2_at (b : Fin 4) (o : Fin 2048) (n : Fin 1024) :
    val_main_v22 (F := Ideal) x1 x4 x5 x6 x7 (ix3 b o n)
      = ∑ k : Fin 2048, val_main_v20 (F := Ideal) x1 x4 x5 x6 (ix3 b k n) * x7 (ix2 o k) := by
  pointwise [val_main_v22, val_main_v21]

/-- The second layer is batch normalisation of the second product. -/
theorem layer2 : val_main_v41 (F := Ideal) x1 x4 x5 x6 x7 x8 x9 = bnR (val_main_v22 (F := Ideal) x1 x4 x5 x6 x7) x8 x9 := rfl

/-- A word below 1024 is not negative. -/
theorem not_negative (w : BitVec 32) (h : w.toNat < 1024) : w.slt 0#32 = false := by
  rw [BitVec.slt_eq_decide, BitVec.toInt_eq_toNat_cond]
  simp
  omega

/-- An index in range is used as it is. -/
theorem index_at (b : Fin 4) (n : Fin 1024) (k : Fin 8) (h : (x3 (ix3 b n k)).toNat < 1024) :
    val_main_v48 (F := Ideal) x3 (ix4 b n k 0) = x3 (ix3 b n k) := by
  pointwise [val_main_v48, val_main_v47, val_main_v46, val_main_v45, val_main_v44, val_main_v43, val_main_c_6, val_main_c_7]
  simp only [IntOp.cmpi]
  rw [not_negative _ h]
  rfl

/-- The features gathered for an index in range. -/
theorem gathered_at (b : Fin 4) (n : Fin 1024) (k : Fin 8) (o : Fin 2048) (h : (x3 (ix3 b n k)).toNat < 1024) :
    val_main_v49 (F := Ideal) x1 x3 x4 x5 x6 x7 x8 x9 (ix4 b n k o)
      = val_main_v42 (F := Ideal) x1 x4 x5 x6 x7 x8 x9 (ix3 b ⟨(x3 (ix3 b n k)).toNat, h⟩ o) := by
  unfold val_main_v49
  rw [gather_at]
  congr 2
  apply Fin.ext
  show min _ 1023 = (x3 (ix3 b n k)).toNat
  rw [index_at x3 b n k h, BitVec.toInt_eq_toNat_cond, if_pos (by omega)]
  omega

/-- The features with channels last. -/
theorem turned_at (b : Fin 4) (n : Fin 1024) (o : Fin 2048) :
    val_main_v42 (F := Ideal) x1 x4 x5 x6 x7 x8 x9 (ix3 b n o) = val_main_v41 (F := Ideal) x1 x4 x5 x6 x7 x8 x9 (ix3 b o n) := by
  pointwise [val_main_v42]

/-- The position term plus the gathered features. -/
theorem sum_at (b : Fin 4) (o : Fin 2048) (n : Fin 1024) (k : Fin 8) :
    val_main_v51 (F := Ideal) x1 x2 x3 x4 x5 x6 x7 x8 x9 (ix4 b o n k)
      = x2 (ix4 b o n k) + val_main_v49 (F := Ideal) x1 x3 x4 x5 x6 x7 x8 x9 (ix4 b n k o) := by
  pointwise [val_main_v51, val_main_v50]

/-- The result: the largest over the eight neighbours. -/
theorem max_at (b : Fin 4) (o : Fin 2048) (n : Fin 1024) :
    val_main_v52 (F := Ideal) x1 x2 x3 x4 x5 x6 x7 x8 x9 (ix3 b o n)
      = Finset.univ.sup fun k : Fin 8 => val_main_v51 (F := Ideal) x1 x2 x3 x4 x5 x6 x7 x8 x9 (ix4 b o n k) := by
  pointwise [val_main_v52, val_main_cst_8]
  rw [show (Ideal.ofBits .f32 4286578688#32 : EReal) = ⊥ by simp [Ideal.ofBits, Ideal.ieee]]
  rfl

end Cert.ReferenceIdeal.Val

end
-- ==== Proof.Layer.lean ====
module

public import proofs.«01_k».proof.Proof.KernelValue
public import proofs.«01_k».proof.Proof.RefValue

@[expose] public section

set_option maxRecDepth 16384

noncomputable section

/-! ## One layer, the kernel's way and the reference's -/

namespace Cert.Layer

open Cert.KernelIdeal Cert.KernelIdeal.Val Cert.ReferenceIdeal.Val Idealize.ShloMosaic Idealize.ShloMosaic.Pointwise
open scoped BigOperators

/-- The kernel's layer at an entry, when the channel's entries and gain are numbers. -/
theorem kernel_layer (p : Fin 4 → Fin 1024 → Fin 2048 → EReal) (g e : FVec Ideal S2048 .f32) (o : Fin 2048)
    (r : Fin 4 → Fin 1024 → ℝ) (gr : ℝ) (hp : ∀ b n, p b n o = (r b n : EReal)) (hg : g (ix1 o) = (gr : EReal)) (b : Fin 4) (n : Fin 1024) :
    max (p b n o * scaleV (statsUpTo p 15) g (ix1 o) + shiftV (statsUpTo p 15) g e (ix1 o)) 0
      = max ((Norm.normed r gr b n : EReal) + e (ix1 o)) 0 := by
  rw [shiftV_at, scaleV_at, meanV_at, statsUpTo_sum, statsUpTo_sq, upTo_last, upTo_last, hg]
  simp only [hp]
  rw [Norm.mean_cast, Norm.square_cast, Norm.small_eq, Norm.kernel_form]

/-- The reference's layer at an entry, when the channel's entries and gain are numbers. -/
theorem reference_layer (y : FVec Ideal S4x2048x1024 .f32) (g e : FVec Ideal S2048 .f32) (o : Fin 2048)
    (r : Fin 4 → Fin 1024 → ℝ) (gr : ℝ) (hy : ∀ b n, y (ix3 b o n) = (r b n : EReal)) (hg : g (ix1 o) = (gr : EReal)) (b : Fin 4) (n : Fin 1024) :
    bnR y g e (ix3 b o n) = max ((Norm.normed r gr b n : EReal) + e (ix1 o)) 0 := by
  have hm : meanR y (ix3 0 o 0) = (Norm.mean r : EReal) := by
    rw [meanR_at, sumR_at]
    simp only [hy]
    exact Norm.mean_cast r
  rw [bnR_at, varR_at, sumR_at]
  simp only [sqR_at, hm, hy]
  rw [Norm.var_cast, Norm.small_eq, hg, Norm.reference_form]

end Cert.Layer

end
-- ==== Proof.Main.lean ====
module

public import proofs.«01_k».proof.Proof.Finite
public import proofs.«01_k».proof.Proof.Layer
public import proofs.«01_k».proof.Proof.RefValue

@[expose] public section

set_option maxRecDepth 16384

noncomputable section

/-! ## The kernel's result is the reference's -/

namespace Cert.Main

open Cert.KernelIdeal Cert.KernelIdeal.Gen Cert.KernelIdeal.Val Cert.ReferenceIdeal.Val Cert.ReferenceIdeal.Read Cert.Finite
open Idealize.ShloMosaic Idealize.ShloMosaic.TcCoe Idealize.ShloMosaic.Pointwise
open scoped BigOperators

variable (m : (ℓ : Loc nD τ sig) → Buf (Elt Ideal) ℓ) (ρ : Dev nD → PrngReg) (c : Dev nD)

/-- The first product as a number. -/
def r1 (o : Fin 2048) (b : Fin 4) (n : Fin 1024) : ℝ :=
  ∑ k : Fin 1024, EReal.toReal (arg1 m c (ix3 b k n)) * EReal.toReal (arg4 m c (ix2 o k))

/-- The first layer's entry as a number. -/
def a1 (o : Fin 2048) (b : Fin 4) (n : Fin 1024) : ℝ :=
  max (Norm.normed (r1 m c o) (EReal.toReal (arg5 m c (ix1 o))) b n + EReal.toReal (arg6 m c (ix1 o))) 0

/-- The second product as a number. -/
def r2 (o : Fin 2048) (b : Fin 4) (n : Fin 1024) : ℝ :=
  ∑ k : Fin 2048, EReal.toReal (arg7 m c (ix2 o k)) * a1 m c k b n

/-- The reference's first product of the kernel's arguments. -/
abbrev ref1 : FVec Ideal S4x2048x1024 .f32 := val_main_v1 (F := Ideal) (arg1 m c) (arg4 m c)
/-- The reference's first layer of the kernel's arguments. -/
abbrev ref1n : FVec Ideal S4x2048x1024 .f32 := val_main_v20 (F := Ideal) (arg1 m c) (arg4 m c) (arg5 m c) (arg6 m c)
/-- The reference's second product of the kernel's arguments. -/
abbrev ref2 : FVec Ideal S4x2048x1024 .f32 :=
  val_main_v22 (F := Ideal) (arg1 m c) (arg4 m c) (arg5 m c) (arg6 m c) (arg7 m c)
/-- The reference's second layer of the kernel's arguments. -/
abbrev ref2n : FVec Ideal S4x2048x1024 .f32 :=
  val_main_v41 (F := Ideal) (arg1 m c) (arg4 m c) (arg5 m c) (arg6 m c) (arg7 m c) (arg8 m c) (arg9 m c)

variable (h : Good m c)
include h

/-- The kernel's first product is that number. -/
theorem p1_num (o : Fin 2048) (b : Fin 4) (n : Fin 1024) : p1 m c b n o = (r1 m c o b n : EReal) := by
  show (∑ k : Fin 1024, arg1 m c (ix3 b k n) * arg4 m c (ix2 o k) : EReal) = _
  unfold r1
  rw [← Norm.cast_sum]
  refine Finset.sum_congr rfl fun k _ => ?_
  rw [EReal.coe_mul, ← h.features, ← h.weights1]

/-- The reference's first product is the same number. -/
theorem ref1_num (o : Fin 2048) (b : Fin 4) (n : Fin 1024) : ref1 m c (ix3 b o n) = (r1 m c o b n : EReal) :=
  (prod1_at _ _ b o n).trans (p1_num m c h o b n)

/-- The sum under the first rectifier is a number. -/
theorem a1_num (o : Fin 2048) (b : Fin 4) (n : Fin 1024) :
    max ((Norm.normed (r1 m c o) (EReal.toReal (arg5 m c (ix1 o))) b n : EReal) + arg6 m c (ix1 o)) 0 = (a1 m c o b n : EReal) := by
  unfold a1
  rw [EReal.coe_strictMono.monotone.map_max, EReal.coe_add, ← h.offsets1]
  rfl

/-- The kernel's first layer is that number. -/
theorem layer1_num (o : Fin 2048) (b : Fin 4) (n : Fin 1024) :
    max (p1 m c b n o * s1 m c (ix1 o) + b1 m c (ix1 o)) 0 = (a1 m c o b n : EReal) :=
  (Layer.kernel_layer (p1 m c) (arg5 m c) (arg6 m c) o (r1 m c o) _ (fun b n => p1_num m c h o b n) (h.gains1 _) b n).trans
    (a1_num m c h o b n)

/-- The reference's first layer is the same number. -/
theorem ref1n_num (o : Fin 2048) (b : Fin 4) (n : Fin 1024) : ref1n m c (ix3 b o n) = (a1 m c o b n : EReal) :=
  (congrFun (layer1 (arg1 m c) (arg4 m c) (arg5 m c) (arg6 m c)) (ix3 b o n)).trans
    ((Layer.reference_layer (ref1 m c) (arg5 m c) (arg6 m c) o (r1 m c o) _ (fun b n => ref1_num m c h o b n) (h.gains1 _) b n).trans
      (a1_num m c h o b n))

/-- The kernel's second product is a number. -/
theorem p2_num (o : Fin 2048) (b : Fin 4) (n : Fin 1024) : p2 m c b n o = (r2 m c o b n : EReal) := by
  unfold p2 r2
  rw [← Norm.cast_sum]
  refine Finset.sum_congr rfl fun k _ => ?_
  rw [layer1_num m c h, EReal.coe_mul, ← h.weights2]

/-- The reference's second product is the same number. -/
theorem ref2_num (o : Fin 2048) (b : Fin 4) (n : Fin 1024) : ref2 m c (ix3 b o n) = (r2 m c o b n : EReal) := by
  refine (prod2_at _ _ _ _ _ b o n).trans ?_
  unfold r2
  rw [← Norm.cast_sum]
  refine Finset.sum_congr rfl fun k _ => ?_
  rw [EReal.coe_mul, ← h.weights2, mul_comm]
  exact congrArg (arg7 m c (ix2 o k) * ·) (ref1n_num m c h k b n)

/-- The features the kernel gathers are the reference's. -/
theorem feat_eq (o : Fin 2048) (b : Fin 4) (n : Fin 1024) : feat m c b n o = ref2n m c (ix3 b o n) :=
  (Layer.kernel_layer (p2 m c) (arg8 m c) (arg9 m c) o (r2 m c o) _ (fun b n => p2_num m c h o b n) (h.gains2 _) b n).trans
    ((congrFun (layer2 (arg1 m c) (arg4 m c) (arg5 m c) (arg6 m c) (arg7 m c) (arg8 m c) (arg9 m c)) (ix3 b o n)).trans
      (Layer.reference_layer (ref2 m c) (arg8 m c) (arg9 m c) o (r2 m c o) _ (fun b n => ref2_num m c h o b n) (h.gains2 _) b n)).symm

/-- The kernel's result array is the reference's, on the same arguments. -/
theorem result_eq : ((dat3 (V6 m ρ) c).arrAt 3 cfg3.N : Vec Ideal S4x2048x1024 .f32)
    = val_main_v52 (F := Ideal) (arg1 m c) (arg2 m c) (arg3 m c) (arg4 m c) (arg5 m c) (arg6 m c) (arg7 m c) (arg8 m c) (arg9 m c) := by
  refine funext fun (j : S4x2048x1024.Idx) => ?_
  obtain ⟨b, o, n, rfl⟩ := triple_idx j
  refine (result_at m ρ c b o n).trans (Eq.trans ?_ (max_at _ _ _ _ _ _ _ _ _ b o n).symm)
  refine congrArg _ (funext fun k => ?_)
  refine Eq.trans ?_ (sum_at _ _ _ _ _ _ _ _ _ b o n k).symm
  rw [hot_pick (fun x => feat m c b x o) _ (h.indices _), add_comm]
  refine congrArg (arg2 m c (ix4 b o n k) + ·) ?_
  exact (feat_eq m c h o b _).trans ((gathered_at _ _ _ _ _ _ _ _ b n k o (h.indices _)).trans (turned_at _ _ _ _ _ _ _ b _ o)).symm

end Cert.Main

end
-- ==== Proof.Run.lean ====
module

public import proofs.«01_k».proof.Proof.Gen.KernelIdeal.Frame

@[expose] public section

set_option maxRecDepth 16384

noncomputable section

/-! ## The kernel's run: where its result array ends -/

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- Every execution terminates with the result array holding what the last region wrote into it, and every argument
    array as launched. -/
theorem run_result : θ_run defs (onTc (τ := τ) (main (F := F))) ⟨m, fun _ => 0, ρ⟩ (fun r => ∀ c : Dev nD,
      r.2.mem ((c.tc : Thread nD τ).loc main_v41) = (dat3 (V6 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨(h c _ (mem_uc main_v41 (by decide))).trans (W7_arr m ρ c 3),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Main
public import proofs.«01_k».proof.Proof.Run
public import Idealize.ShloMosaic.Adequacy
public import Idealize.ShloMosaic.Init

@[expose] public section

noncomputable section

namespace Cert.Proof

open Idealize.ShloMosaic Idealize.SL.Sem

/-- The reference terminates, leaves its arguments unchanged, and its counters, of which it has none, at zero. -/
theorem reference_frame : letI := Cert.ReferenceIdeal.Gen.facts; Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Under the precondition the ideal kernel and the ideal reference, given the same arguments, end with the same two results:
    the result array of the last region is the reference's array, and the indices are handed on unchanged. -/
theorem same_results : letI := Cert.KernelIdeal.Gen.facts; letI := Cert.ReferenceIdeal.Gen.facts; letI := Cert.Finite.preFacts
    Cert.algebraic_KernelIdeal_ReferenceIdeal_pre_finite_and_in_range := by
  intro m g m' g' hpre hargs
  refine ⟨fun c => (Cert.KernelIdeal.Gen.dat3 (Cert.KernelIdeal.Gen.V6 m g) c).arrAt 3 Cert.KernelIdeal.cfg3.N,
    fun c => Cert.KernelIdeal.Val.arg3 m c, ?_, ?_⟩
  · refine (θ_run Cert.KernelIdeal.defs _ _).mono (fun r h c => ?_) (Cert.KernelIdeal.Val.run_result m g)
    obtain ⟨hv, h0, h1, h2, h3, h4, h5, h6, h7, h8, h9⟩ := h c
    exact ⟨hv, h3, h0, h1, h2, h3, h4, h5, h6, h7, h8, h9⟩
  · refine (θ_run Cert.ReferenceIdeal.defs _ _).mono (fun r h c => ?_) (Cert.ReferenceIdeal.Value.run (F := Ideal) m' g')
    obtain ⟨hv, h3, hrest⟩ := h c
    obtain ⟨-, e1, e2, e3, e4, e5, e6, e7, e8, e9⟩ := hargs c
    refine ⟨hv.trans ?_, h3.trans e3, hrest⟩
    rw [Cert.ReferenceIdeal.Read.val_main_v52_eq, e1, e2, e3, e4, e5, e6, e7, e8, e9]
    exact (Cert.Main.result_eq m g c (Cert.Finite.good m c hpre)).symm

/-- All of the claims. -/
theorem claim : Cert.Claim :=
  ⟨Cert.Kernel.Gen.facts, Cert.KernelIdeal.Gen.facts, Cert.ReferenceIdeal.Gen.facts, Cert.Finite.preFacts,
    fun m g _ => Cert.Kernel.Gen.frame m g, fun m g _ => Cert.KernelIdeal.Gen.frame m g, fun m g _ => Cert.KernelIdeal.Gen.frame m g,
    reference_frame, fun m g _ => reference_frame m g trivial, trivial, same_results⟩

end Cert.Proof

end
